-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 4, 4] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 1024]⟩ (Layout.meshBlock [2, 4, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S2048x512 : Shape := ⟨2, ![2048, 512]⟩
abbrev S2x256x1024 : Shape := ⟨3, ![2, 256, 1024]⟩
abbrev S2 : Shape := ⟨1, ![2]⟩
abbrev S8 : Shape := ⟨1, ![8]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩
abbrev S1x256x512 : Shape := ⟨3, ![1, 256, 512]⟩
abbrev S256x512 : Shape := ⟨2, ![256, 512]⟩

abbrev nBuf : Space → Nat
  | .hbm => 2
  | .vmem => 5
  | .smem => 0
  | _ => 0

abbrev bufTy : (tb : Table) → Fin (tcTables nBuf tb) → BufTy
  | .hbm, ⟨0, _⟩ => ⟨S1x2048x1024, .f32⟩
  | .hbm, ⟨1, _⟩ => ⟨S2048x512, .bf16⟩
  | .local _ .vmem, ⟨0, _⟩ => ⟨S2048x512, .bf16⟩
  | .local _ .vmem, ⟨1, _⟩ => ⟨S2x256x1024, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 3 → Nat :=
  let c0 : Index := 0#32
  let c0_28 : Index := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c512_i32 : BitVec 32 := 512#32
  let v35 : BitVec 32 := Scalar.muli v9 c512_i32
  let v36 : Index := Scalar.indexCast v35
  ![0, 0, v36.toNat]
def k0_off2 (d0 : Dev nD) : Fin 3 → Nat :=
  let c0_32 : Index := 0#32
  let c0_33 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_31 : BitVec 32 := 512#32
  let v43 : BitVec 32 := Scalar.muli v2 c512_i32_31
  let v44 : Index := Scalar.indexCast v43
  ![0, 0, v44.toNat]
def k0_dev2 (d0 : Dev nD) : Nat :=
  let c0_i32_39 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_38 : BitVec 32 := 16#32
  let v51 : BitVec 32 := Scalar.muli v9 c16_i32_38
  let v52 : BitVec 32 := Scalar.addi c0_i32_39 v51
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_40 : BitVec 32 := 4#32
  let v53 : BitVec 32 := Scalar.muli v5 c4_i32_40
  let v54 : BitVec 32 := Scalar.addi v52 v53
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v55 : BitVec 32 := Scalar.muli v8 c1_i32_41
  let v56 : BitVec 32 := Scalar.addi v54 v55
  v56.toNat
def k0_off3 (d0 : Dev nD) : Fin 3 → Nat :=
  let c1 : Index := 1#32
  let c0_61 : Index := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c512_i32_60 : BitVec 32 := 512#32
  let v75 : BitVec 32 := Scalar.muli v9 c512_i32_60
  let v76 : Index := Scalar.indexCast v75
  ![1, 0, v76.toNat]
def k0_off4 (d0 : Dev nD) : Fin 3 → Nat :=
  let c1_64 : Index := 1#32
  let c0_65 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_63 : BitVec 32 := 512#32
  let v83 : BitVec 32 := Scalar.muli v2 c512_i32_63
  let v84 : Index := Scalar.indexCast v83
  ![1, 0, v84.toNat]
def k0_dev3 (d0 : Dev nD) : Nat :=
  let c0_i32_71 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_70 : BitVec 32 := 16#32
  let v91 : BitVec 32 := Scalar.muli v9 c16_i32_70
  let v92 : BitVec 32 := Scalar.addi c0_i32_71 v91
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_72 : BitVec 32 := 4#32
  let v93 : BitVec 32 := Scalar.muli v5 c4_i32_72
  let v94 : BitVec 32 := Scalar.addi v92 v93
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v95 : BitVec 32 := Scalar.muli v8 c1_i32_73
  let v96 : BitVec 32 := Scalar.addi v94 v95
  v96.toNat
def k0_dev4 (d0 : Dev nD) : Nat :=
  let c0_i32_103 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_102 : BitVec 32 := 16#32
  let v131 : BitVec 32 := Scalar.muli v9 c16_i32_102
  let v132 : BitVec 32 := Scalar.addi c0_i32_103 v131
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_104 : BitVec 32 := 4#32
  let v133 : BitVec 32 := Scalar.muli v5 c4_i32_104
  let v134 : BitVec 32 := Scalar.addi v132 v133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_105 : BitVec 32 := 1#32
  let v135 : BitVec 32 := Scalar.muli v8 c1_i32_105
  let v136 : BitVec 32 := Scalar.addi v134 v135
  v136.toNat
def k0_dev5 (d0 : Dev nD) : Nat :=
  let c0_i32_134 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_133 : BitVec 32 := 16#32
  let v171 : BitVec 32 := Scalar.muli v9 c16_i32_133
  let v172 : BitVec 32 := Scalar.addi c0_i32_134 v171
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_135 : BitVec 32 := 4#32
  let v173 : BitVec 32 := Scalar.muli v5 c4_i32_135
  let v174 : BitVec 32 := Scalar.addi v172 v173
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_136 : BitVec 32 := 1#32
  let v175 : BitVec 32 := Scalar.muli v8 c1_i32_136
  let v176 : BitVec 32 := Scalar.addi v174 v175
  v176.toNat
def k0_dev6 (d0 : Dev nD) : Nat :=
  let c0_i32_166 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_165 : BitVec 32 := 16#32
  let v211 : BitVec 32 := Scalar.muli v9 c16_i32_165
  let v212 : BitVec 32 := Scalar.addi c0_i32_166 v211
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_167 : BitVec 32 := 4#32
  let v213 : BitVec 32 := Scalar.muli v5 c4_i32_167
  let v214 : BitVec 32 := Scalar.addi v212 v213
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_168 : BitVec 32 := 1#32
  let v215 : BitVec 32 := Scalar.muli v8 c1_i32_168
  let v216 : BitVec 32 := Scalar.addi v214 v215
  v216.toNat
def k0_dev7 (d0 : Dev nD) : Nat :=
  let c0_i32_197 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_196 : BitVec 32 := 16#32
  let v251 : BitVec 32 := Scalar.muli v9 c16_i32_196
  let v252 : BitVec 32 := Scalar.addi c0_i32_197 v251
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_198 : BitVec 32 := 4#32
  let v253 : BitVec 32 := Scalar.muli v5 c4_i32_198
  let v254 : BitVec 32 := Scalar.addi v252 v253
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_199 : BitVec 32 := 1#32
  let v255 : BitVec 32 := Scalar.muli v8 c1_i32_199
  let v256 : BitVec 32 := Scalar.addi v254 v255
  v256.toNat
def k0_dev8 (d0 : Dev nD) : Nat :=
  let c0_i32_228 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_227 : BitVec 32 := 16#32
  let v291 : BitVec 32 := Scalar.muli v9 c16_i32_227
  let v292 : BitVec 32 := Scalar.addi c0_i32_228 v291
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_229 : BitVec 32 := 4#32
  let v293 : BitVec 32 := Scalar.muli v5 c4_i32_229
  let v294 : BitVec 32 := Scalar.addi v292 v293
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_230 : BitVec 32 := 1#32
  let v295 : BitVec 32 := Scalar.muli v8 c1_i32_230
  let v296 : BitVec 32 := Scalar.addi v294 v295
  v296.toNat
def k0_dev9 (d0 : Dev nD) : Nat :=
  let c0_i32_253 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_252 : BitVec 32 := 16#32
  let v325 : BitVec 32 := Scalar.muli v9 c16_i32_252
  let v326 : BitVec 32 := Scalar.addi c0_i32_253 v325
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_254 : BitVec 32 := 4#32
  let v327 : BitVec 32 := Scalar.muli v5 c4_i32_254
  let v328 : BitVec 32 := Scalar.addi v326 v327
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_255 : BitVec 32 := 1#32
  let v329 : BitVec 32 := Scalar.muli v8 c1_i32_255
  let v330 : BitVec 32 := Scalar.addi v328 v329
  v330.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x2048x1024 : Shape := ⟨3, ![2, 2048, 1024]⟩
abbrev S_ : Shape := ⟨0, ![]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S_, .f32⟩
  | .hbm, ⟨2, _⟩ => ⟨S2048x1024, .f32⟩
  | .hbm, ⟨3, _⟩ => ⟨S2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdeal.Prog.lean ====
/-
# The kernel's body, chunk by chunk

The kernel cuts a device's block of 2048 rows into eight chunks of 256 rows and repeats the same five pieces for
each chunk: it starts the copy of the chunk out of the argument (`issue`), casts its two halves into the send and
the local buffer (`fill`), sends one of them to the device across the x axis (`send`), adds what it received to the
half it kept (`collect`), and at the end waits for its own sends (`drain`). This module writes the five pieces once,
over the chunk's number, and states that the printed body is their sequence.
-/
module

public import proofs.«01_k».proof.Proof.Gen.KernelIdeal
public import proofs.«01_k».proof.Proof.Gen.KernelIdeal.Skeleton
public import Idealize.ShloMosaic.Lib.Tactic

@[expose] public section

set_option maxRecDepth 16384

noncomputable section

namespace Cert.KernelIdeal.Rs

open Cert.KernelIdeal Cert.KernelIdeal.Gen
open Idealize.ShloMosaic
open Idealize.ShloMosaic.TcCoe
open Idealize.SL.Sem

variable {F : FTy → Type} [FloatOps F]

/-! ## The buffers and their pieces -/

abbrev xM : Memref sig .tc .hbm S1x2048x1024 .f32 := Memref.whole main_arg0
abbrev oM : Memref sig .tc .vmem S2048x512 .bf16 := Memref.whole cc0_stg0_0
abbrev bM : Memref sig .tc .vmem S2x256x1024 .f32 := Memref.whole cc0_scratch0
abbrev sM : Memref sig .tc .vmem S2048x512 .bf16 := Memref.whole cc0_scratch1
abbrev lM : Memref sig .tc .vmem S2048x512 .bf16 := Memref.whole cc0_scratch2
abbrev rM : Memref sig .tc .vmem S2048x512 .bf16 := Memref.whole cc0_scratch3

theorem rows_inb (k : Fin 8) : ∀ a, (![256 * k.val, 0] : Fin 2 → ℕ) a + S256x512.size a ≤ S2048x512.size a := by
  revert k; decide
theorem slot_inb (k : Fin 8) : ∀ a, (![k.val % 2, 0, 0] : Fin 3 → ℕ) a + S1x256x1024.size a ≤ S2x256x1024.size a := by
  revert k; decide
theorem chunk_inb (k : Fin 8) : ∀ a, (![0, 256 * k.val, 0] : Fin 3 → ℕ) a + S1x256x1024.size a ≤ S1x2048x1024.size a := by
  revert k; decide
theorem sem2_inb (k : Fin 8) : ∀ a, (![k.val % 2] : Fin 1 → ℕ) a + S1.size a ≤ S2.size a := by
  revert k; decide
theorem sem8_inb (k : Fin 8) : ∀ a, (![k.val] : Fin 1 → ℕ) a + S1.size a ≤ S8.size a := by
  revert k; decide

/-- The rows of chunk `k` in a buffer of the kernel's result shape. -/
abbrev rowsR (k : Fin 8) : Rect S2048x512 := Rect.unit (s := S2048x512) ![256 * k.val, 0] S256x512.size (rows_inb k)
/-- The slot of the two-slot buffer that chunk `k` is copied into. -/
abbrev slotR (k : Fin 8) : Rect S2x256x1024 := Rect.unit (s := S2x256x1024) ![k.val % 2, 0, 0] S1x256x1024.size (slot_inb k)
/-- The rows of chunk `k` in the argument. -/
abbrev chunkR (k : Fin 8) : Rect S1x2048x1024 := Rect.unit (s := S1x2048x1024) ![0, 256 * k.val, 0] S1x256x1024.size (chunk_inb k)

abbrev slot1 (k : Fin 8) : Memref sig .tc .vmem S1x256x1024 .f32 := bM.slice (slotR k) (fun _ => rfl)
abbrev slotM (k : Fin 8) : Memref sig .tc .vmem S256x1024 .f32 := (slot1 k).squeeze S256x1024 squeezes_S1x256x1024_S256x1024
abbrev chunk1 (k : Fin 8) : Memref sig .tc .hbm S1x256x1024 .f32 := xM.slice (chunkR k) (fun _ => rfl)
abbrev chunkM (k : Fin 8) : Memref sig .tc .hbm S256x1024 .f32 := (chunk1 k).squeeze S256x1024 squeezes_S1x256x1024_S256x1024
abbrev sRow (k : Fin 8) : Memref sig .tc .vmem S256x512 .bf16 := sM.slice (rowsR k) (fun _ => rfl)
abbrev rRow (k : Fin 8) : Memref sig .tc .vmem S256x512 .bf16 := rM.slice (rowsR k) (fun _ => rfl)

/-! ## The semaphores -/

/-- The barrier semaphore, the semaphore of chunk `k`'s copy out of the argument (one per slot), and those of its
    send and of its arrival. -/
abbrev barS : Sem sig := (SemArray.scalar (sig.barrier 0 rfl) : Sems sig S_).sem
abbrev loadA (k : Fin 8) : DmaSems sig S1 := cc0_scratch4.slice (Rect.unit (s := S2) ![k.val % 2] S1.size (sem2_inb k))
abbrev loadS (k : Fin 8) : DmaSem sig := ((loadA k).squeeze S_ squeezes_S1_S_ : DmaSems sig S_).sem
abbrev sendA (k : Fin 8) : DmaSems sig S1 := cc0_scratch5.slice (Rect.unit (s := S8) ![k.val] S1.size (sem8_inb k))
abbrev sendS (k : Fin 8) : DmaSem sig := ((sendA k).squeeze S_ squeezes_S1_S_ : DmaSems sig S_).sem
abbrev recvA (k : Fin 8) : DmaSems sig S1 := cc0_scratch6.slice (Rect.unit (s := S8) ![k.val] S1.size (sem8_inb k))
abbrev recvS (k : Fin 8) : DmaSem sig := ((recvA k).squeeze S_ squeezes_S1_S_ : DmaSems sig S_).sem

/-! ## The side conditions, at every chunk -/

theorem words_rows (k : Fin 8) : (rowsR k).WholeWords (EltTy.packing .bf16) := by
  revert k; decide
theorem packed_rows (k : Fin 8) : (rowsR k).PackedRows (EltTy.packing .bf16) := by
  revert k; decide
theorem sRow_exact (k : Fin 8) : (sRow k).view.WordExact := (Memref.isWhole_whole _).wordExact_slice rfl _ (words_rows k)
theorem rRow_exact (k : Fin 8) : (rRow k).view.WordExact := (Memref.isWhole_whole _).wordExact_slice rfl _ (words_rows k)
theorem slotM_exact (k : Fin 8) : (slotM k).view.WordExact := (View.wordExact_bits rfl).reshape _ _
theorem chunkM_exact (k : Fin 8) : (chunkM k).view.WordExact := (View.wordExact_bits rfl).reshape _ _
theorem rows_stores {M : Memref sig .tc .vmem S2048x512 .bf16} (hM : M.IsWhole) (k : Fin 8) : (M.access (rowsR k)).Stores Finset.univ :=
  View.stores_vmem h_S256x512 (hM.storeExact_slice rfl _ (packed_rows k)) (fun _ => rfl)

/-! ## The pieces -/

/-- Start the copy of chunk `k` of the argument into its slot. -/
def issue (k : Fin 8) : Prog (TpuEff nD τ sig (Elt F) Λ₀ .tc) PUnit :=
  Prog.lift (.enqueueDma (chunkM k) (.here (slotM k)) (.dma (loadS k)) (chunkM_exact k) (slotM_exact k) ⟨Or.inl rfl, trivial⟩)

/-- Wait for chunk `k`'s copy and cast the half at `op` into the send buffer's rows, the half at `oo` into the local
    buffer's. -/
def fill (k : Fin 8) (op oo : Fin 3 → ℕ) (hp : ∀ a, op a + S1x256x512.size a ≤ S2x256x1024.size a)
    (ho : ∀ a, oo a + S1x256x512.size a ≤ S2x256x1024.size a) : Prog (TpuEff nD τ sig (Elt F) Λ₀ .tc) PUnit := do
  Prog.lift (.waitDma2 (loadS k) (chunkM k) (slotM k) (chunkM_exact k) (slotM_exact k))
  let v : Vec F S1x256x512 .f32 ← Prog.lift (.load bM (Rect.unit (s := S2x256x1024) op S1x256x512.size hp).toLoadRect (View.loadsAt_vmem h_S1x256x512))
  let _ : Vec F S256x512 .bf16 ← Prog.lift (.load sM (rowsR k).toLoadRect (View.loadsAt_vmem h_S256x512))
  Prog.lift (.store sM (rowsR k) (k0_pay1 v) Finset.univ (rows_stores (Memref.isWhole_whole _) k) (.inl rfl))
  let w : Vec F S1x256x512 .f32 ← Prog.lift (.load bM (Rect.unit (s := S2x256x1024) oo S1x256x512.size ho).toLoadRect (View.loadsAt_vmem h_S1x256x512))
  let _ : Vec F S256x512 .bf16 ← Prog.lift (.load lM (rowsR k).toLoadRect (View.loadsAt_vmem h_S256x512))
  Prog.lift (.store lM (rowsR k) (k0_pay1 w) Finset.univ (rows_stores (Memref.isWhole_whole _) k) (.inl rfl))

/-- Send the rows of chunk `k` to device `n`. -/
def send (k : Fin 8) (n : Dev nD) : Prog (TpuEff nD τ sig (Elt F) Λ₀ .tc) PUnit :=
  Prog.lift (.enqueueDma (sRow k) (.remote (Dev.tc n) (rRow k) (.dma (sendS k))) (.dma (recvS k)) (sRow_exact k) (rRow_exact k) ⟨⟨rfl, Or.inl rfl⟩, trivial⟩)

/-- Wait for the arrival of chunk `k` and store the sum of the kept and the received rows. -/
def collect (k : Fin 8) : Prog (TpuEff nD τ sig (Elt F) Λ₀ .tc) PUnit := do
  Prog.lift (.waitDma2 (recvS k) (sRow k) (rRow k) (sRow_exact k) (rRow_exact k))
  let v : Vec F S256x512 .bf16 ← Prog.lift (.load lM (rowsR k).toLoadRect (View.loadsAt_vmem h_S256x512))
  let w : Vec F S256x512 .bf16 ← Prog.lift (.load rM (rowsR k).toLoadRect (View.loadsAt_vmem h_S256x512))
  let _ : Vec F S256x512 .bf16 ← Prog.lift (.load oM (rowsR k).toLoadRect (View.loadsAt_vmem h_S256x512))
  Prog.lift (.store oM (rowsR k) (k0_pay19 v w) Finset.univ (rows_stores (Memref.isWhole_whole _) k) (.inl rfl))

/-- Wait until chunk `k` has left. -/
def drain (k : Fin 8) : Prog (TpuEff nD τ sig (Elt F) Λ₀ .tc) PUnit :=
  Prog.lift (.waitDma2 (sendS k) (rRow k) (sRow k) (rRow_exact k) (sRow_exact k))

/-- The two fills of a chunk in the first and in the second slot. -/
abbrev fillE (c : Dev nD) (k : Fin 8) : Prog (TpuEff nD τ sig (Elt F) Λ₀ .tc) PUnit := fill k (k0_off1 c) (k0_off2 c) (k0_off1_inb c) (k0_off2_inb c)
abbrev fillO (c : Dev nD) (k : Fin 8) : Prog (TpuEff nD τ sig (Elt F) Λ₀ .tc) PUnit := fill k (k0_off3 c) (k0_off4 c) (k0_off3_inb c) (k0_off4_inb c)

/-- The handshake: tell device `n` that the landing buffer is free, and wait for the like. -/
def greet (n : Dev nD) : Prog (TpuEff nD τ sig (Elt F) Λ₀ .tc) PUnit := do
  semSignalWord n barS 1#32
  semWaitWord barS 1#32

/-- A turn: a chunk is filled and sent, and the copy of the chunk after next is started. -/
def turn (k k' : Fin 8) (p : Prog (TpuEff nD τ sig (Elt F) Λ₀ .tc) PUnit) (n : Dev nD) : Prog (TpuEff nD τ sig (Elt F) Λ₀ .tc) PUnit := do
  p
  send k n
  issue k'
/-- A turn with no copy left to start. -/
def last (k : Fin 8) (p : Prog (TpuEff nD τ sig (Elt F) Λ₀ .tc) PUnit) (n : Dev nD) : Prog (TpuEff nD τ sig (Elt F) Λ₀ .tc) PUnit := do
  p
  send k n

/-- The eight turns. -/
def turns (c : Dev nD) : Prog (TpuEff nD τ sig (Elt F) Λ₀ .tc) PUnit := do
  issue ⟨0, by decide⟩
  issue ⟨1, by decide⟩
  turn ⟨0, by decide⟩ ⟨2, by decide⟩ (fillE c ⟨0, by decide⟩) ⟨k0_dev2 c, k0_dev2_lt c⟩
  turn ⟨1, by decide⟩ ⟨3, by decide⟩ (fillO c ⟨1, by decide⟩) ⟨k0_dev3 c, k0_dev3_lt c⟩
  turn ⟨2, by decide⟩ ⟨4, by decide⟩ (fillE c ⟨2, by decide⟩) ⟨k0_dev4 c, k0_dev4_lt c⟩
  turn ⟨3, by decide⟩ ⟨5, by decide⟩ (fillO c ⟨3, by decide⟩) ⟨k0_dev5 c, k0_dev5_lt c⟩
  turn ⟨4, by decide⟩ ⟨6, by decide⟩ (fillE c ⟨4, by decide⟩) ⟨k0_dev6 c, k0_dev6_lt c⟩
  turn ⟨5, by decide⟩ ⟨7, by decide⟩ (fillO c ⟨5, by decide⟩) ⟨k0_dev7 c, k0_dev7_lt c⟩
  last ⟨6, by decide⟩ (fillE c ⟨6, by decide⟩) ⟨k0_dev8 c, k0_dev8_lt c⟩
  last ⟨7, by decide⟩ (fillO c ⟨7, by decide⟩) ⟨k0_dev9 c, k0_dev9_lt c⟩

/-- The eight arrivals. -/
def collects : Prog (TpuEff nD τ sig (Elt F) Λ₀ .tc) PUnit := do
  collect ⟨0, by decide⟩
  collect ⟨1, by decide⟩
  collect ⟨2, by decide⟩
  collect ⟨3, by decide⟩
  collect ⟨4, by decide⟩
  collect ⟨5, by decide⟩
  collect ⟨6, by decide⟩
  collect ⟨7, by decide⟩

/-- The eight departures. -/
def drains : Prog (TpuEff nD τ sig (Elt F) Λ₀ .tc) PUnit := do
  drain ⟨0, by decide⟩
  drain ⟨1, by decide⟩
  drain ⟨2, by decide⟩
  drain ⟨3, by decide⟩
  drain ⟨4, by decide⟩
  drain ⟨5, by decide⟩
  drain ⟨6, by decide⟩
  drain ⟨7, by decide⟩

/-- The body as the sequence of its pieces. -/
def pieces : Prog (TpuEff nD τ sig (Elt F) Λ₀ .tc) PUnit := do
  let c : Dev nD ← Prog.lift .deviceId
  greet (⟨k0_dev1 c, k0_dev1_lt c⟩ : Dev nD)
  turns c
  collects
  drains

/-- The printed body, on the launch's buffers and semaphores, is the sequence of the pieces. -/
theorem body_eq :
    cc0_body (F := F) xM (Memref.isWhole_whole _) oM (Memref.isWhole_whole _) bM (Memref.isWhole_whole _) sM (Memref.isWhole_whole _)
      lM (Memref.isWhole_whole _) rM (Memref.isWhole_whole _) cc0_scratch4 cc0_scratch5 cc0_scratch6 = pieces := by
  rw [cc0_body_eq_skeleton]
  unfold pieces greet turns turn last collects drains
  simp only [bind_assoc]
  rfl

end Cert.KernelIdeal.Rs

end
-- ==== Proof.KernelIdeal.Cells.lean ====
/-
# The protocol: cells, contents, schedule, debts

Every device owns nineteen semaphore cells: its barrier cell, two cells for the copies out of the argument (one per
slot of the two-slot buffer), eight cells for its sends and eight for the arrivals. A round of a cell has one duty,
and its payload is what the wait on it hands back. This module fixes the contents of the buffers at each stage, the
schedule of the cells, what a device owes and the order in which cells may be waited for.
-/
module

public import proofs.«01_k».proof.Proof.KernelIdeal.Prog
public import proofs.«01_k».proof.Proof.Gen.KernelIdeal.Launch
public import Idealize.ShloMosaic.Lib.Pipeline.Launch
public import Idealize.ShloMosaic.Lib.Pipeline.Kit

@[expose] public section

set_option maxRecDepth 16384

noncomputable section

namespace Cert.KernelIdeal.Rs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds and the protocol's own -/

abbrev UU : Type := UR sig nD τ × URounds (GSem nD τ sig) Unit

local notation "𝕄" => MT nD τ sig Unit (Elt F) ℕ UU ℕ

abbrev EP : Emb (UR sig nD τ) (MT nD τ sig Unit (Elt F) ℕ UU ℕ) := embL
abbrev ER : Emb (URounds (GSem nD τ sig) Unit) (MT nD τ sig Unit (Elt F) ℕ UU ℕ) := embR

/-! ## The device across the x axis -/

theorem dev_lt (c : Dev nD) : c.val < 32 := c.isLt

/-- The device with the other x coordinate and the same y and z. -/
def peer (c : Dev nD) : Dev nD := ⟨(c.val + 16) % 32, Nat.mod_lt _ (by decide)⟩

theorem peer_peer (c : Dev nD) : peer (peer c) = c := by
  have := dev_lt c
  apply Fin.ext
  show ((c.val + 16) % 32 + 16) % 32 = c.val
  omega

def swap : Dev nD ≃ Dev nD := ⟨peer, peer, peer_peer, peer_peer⟩

theorem peer_val (c : Dev nD) : (4 * ((c.val / 4) % 4) + c.val % 4 + 16) - 16 * (c.val / 16) = (peer c).val := by
  have := dev_lt c
  show _ = (c.val + 16) % 32
  omega

theorem dev1_eq (c : Dev nD) : (⟨k0_dev1 c, k0_dev1_lt c⟩ : Dev nD) = peer c := Fin.ext ((k0_dev1_eq c).trans (peer_val c))
theorem dev2_eq (c : Dev nD) : (⟨k0_dev2 c, k0_dev2_lt c⟩ : Dev nD) = peer c := Fin.ext ((k0_dev2_eq c).trans (peer_val c))
theorem dev3_eq (c : Dev nD) : (⟨k0_dev3 c, k0_dev3_lt c⟩ : Dev nD) = peer c := Fin.ext ((k0_dev3_eq c).trans (peer_val c))
theorem dev4_eq (c : Dev nD) : (⟨k0_dev4 c, k0_dev4_lt c⟩ : Dev nD) = peer c := Fin.ext ((k0_dev4_eq c).trans (peer_val c))
theorem dev5_eq (c : Dev nD) : (⟨k0_dev5 c, k0_dev5_lt c⟩ : Dev nD) = peer c := Fin.ext ((k0_dev5_eq c).trans (peer_val c))
theorem dev6_eq (c : Dev nD) : (⟨k0_dev6 c, k0_dev6_lt c⟩ : Dev nD) = peer c := Fin.ext ((k0_dev6_eq c).trans (peer_val c))
theorem dev7_eq (c : Dev nD) : (⟨k0_dev7 c, k0_dev7_lt c⟩ : Dev nD) = peer c := Fin.ext ((k0_dev7_eq c).trans (peer_val c))
theorem dev8_eq (c : Dev nD) : (⟨k0_dev8 c, k0_dev8_lt c⟩ : Dev nD) = peer c := Fin.ext ((k0_dev8_eq c).trans (peer_val c))
theorem dev9_eq (c : Dev nD) : (⟨k0_dev9 c, k0_dev9_lt c⟩ : Dev nD) = peer c := Fin.ext ((k0_dev9_eq c).trans (peer_val c))

/-! ## The cells -/

theorem loadS_val (k : Fin 8) : (loadS k).val = 1 + k.val % 2 := by revert k; decide
theorem sendS_val (k : Fin 8) : (sendS k).val = 3 + k.val := by revert k; decide
theorem recvS_val (k : Fin 8) : (recvS k).val = 11 + k.val := by revert k; decide

/-- The protocol's semaphores: the barrier first, then the DMA semaphores but the output's staging semaphore. -/
def csem (j : Fin 19) : SemLoc sig := if j.val = 0 then .reg barS else .dma (⟨j.val, j.isLt⟩ : Fin 19)

/-- The DMA semaphores among them, which the kernel declares. -/
def osem (j : Fin 18) : SemLoc sig := .dma (⟨j.val + 1, Nat.succ_lt_succ j.isLt⟩ : Fin 19)

abbrev kcell (ck : Dev nD × Fin 19) : GSem nD τ sig := ((ck.1 : Thread nD τ), csem ck.2)

abbrev barCell (c : Dev nD) : GSem nD τ sig := ((c : Thread nD τ), .reg barS)
abbrev loadCell (c : Dev nD) (k : Fin 8) : GSem nD τ sig := ((c : Thread nD τ), .dma (loadS k))
abbrev sendCell (c : Dev nD) (k : Fin 8) : GSem nD τ sig := ((c : Thread nD τ), .dma (sendS k))
abbrev recvCell (c : Dev nD) (k : Fin 8) : GSem nD τ sig := ((c : Thread nD τ), .dma (recvS k))

def jLoad (k : Fin 8) : Fin 19 := ⟨1 + k.val % 2, by omega⟩
def jSend (k : Fin 8) : Fin 19 := ⟨3 + k.val, by omega⟩
def jRecv (k : Fin 8) : Fin 19 := ⟨11 + k.val, by omega⟩

theorem csem_bar : csem 0 = .reg barS := rfl
theorem csem_load (k : Fin 8) : csem (jLoad k) = .dma (loadS k) := by
  unfold csem; rw [if_neg (by unfold jLoad; dsimp only; omega)]
  exact congrArg SemLoc.dma (Fin.ext (loadS_val k).symm)
theorem csem_send (k : Fin 8) : csem (jSend k) = .dma (sendS k) := by
  unfold csem; rw [if_neg (by unfold jSend; dsimp only; omega)]
  exact congrArg SemLoc.dma (Fin.ext (sendS_val k).symm)
theorem csem_recv (k : Fin 8) : csem (jRecv k) = .dma (recvS k) := by
  unfold csem; rw [if_neg (by unfold jRecv; dsimp only; omega)]
  exact congrArg SemLoc.dma (Fin.ext (recvS_val k).symm)

theorem kcell_bar (c : Dev nD) : kcell (c, 0) = barCell c := rfl
theorem kcell_load (c : Dev nD) (k : Fin 8) : kcell (c, jLoad k) = loadCell c k := by unfold kcell; rw [csem_load]
theorem kcell_send (c : Dev nD) (k : Fin 8) : kcell (c, jSend k) = sendCell c k := by unfold kcell; rw [csem_send]
theorem kcell_recv (c : Dev nD) (k : Fin 8) : kcell (c, jRecv k) = recvCell c k := by unfold kcell; rw [csem_recv]

theorem csem_inj : Function.Injective csem := by
  intro i j h
  unfold csem at h
  by_cases hi : i.val = 0 <;> by_cases hj : j.val = 0
  · exact Fin.ext (hi.trans hj.symm)
  · rw [if_pos hi, if_neg hj] at h; cases h
  · rw [if_neg hi, if_pos hj] at h; cases h
  · rw [if_neg hi, if_neg hj] at h
    exact Fin.ext (congrArg Fin.val (SemLoc.dma.inj h))

/-- The credit of a chunk's transfer, and of its copy out of the argument. -/
def N : ℕ := (rRow 0).view.dmaCredit
def N₁ : ℕ := (slotM 0).view.dmaCredit

theorem credit_r (k : Fin 8) : (rRow k).view.dmaCredit = N := rfl
theorem credit_s (k : Fin 8) : (sRow k).view.dmaCredit = N := rfl
theorem credit_slot (k : Fin 8) : (slotM k).view.dmaCredit = N₁ := rfl
theorem N_pos : 0 < N := View.dmaCredit_pos _ (by decide)
theorem N₁_pos : 0 < N₁ := View.dmaCredit_pos _ (by decide)

/-! ## Contents -/

/-- The index of the argument's block at row `r` and column `j`. -/
def argIx (r : Fin 2048) (j : Fin 1024) : S1x2048x1024.Idx := fun a => match a with
  | 0 => (0 : Fin 1)
  | 1 => r
  | 2 => j

/-- The column of the argument that column `j` of the half sent away comes from, and of the half kept. -/
def colP (c : Dev nD) (j : Fin 512) : Fin 1024 := ⟨512 - 512 * (c.val / 16) + j.val, by have := dev_lt c; omega⟩
def colO (c : Dev nD) (j : Fin 512) : Fin 1024 := ⟨512 * (c.val / 16) + j.val, by have := dev_lt c; omega⟩

variable (m : (ℓ : Loc nD τ sig) → Buf (Elt F) ℓ) (ρ : Dev nD → PrngReg)

/-- Device `c`'s block of the argument. -/
def argC (c : Dev nD) : S1x2048x1024.Idx → Elt F .f32 := m ((c : Thread nD τ).loc main_arg0)

/-- What device `c` sends: the other half of its columns, cast. -/
def sendC (c : Dev nD) : S2048x512.Idx → Elt F .bf16 :=
  fun i => FloatOps.truncf .bf16 bitsLt_bf16_f32 (argC m c (argIx (i 0) (colP c (i 1))))
/-- What device `c` keeps: its own half of its columns, cast. -/
def localC (c : Dev nD) : S2048x512.Idx → Elt F .bf16 :=
  fun i => FloatOps.truncf .bf16 bitsLt_bf16_f32 (argC m c (argIx (i 0) (colO c (i 1))))
/-- What device `c` receives: what its peer sends. -/
def recvC (c : Dev nD) : S2048x512.Idx → Elt F .bf16 := sendC m (peer c)
/-- The kernel's result on device `c`. -/
def outC (c : Dev nD) : S2048x512.Idx → Elt F .bf16 := fun i => FloatOps.addf (localC m c i) (recvC m c i)
/-- Chunk `k` of the argument as it lies in its slot. -/
def slotC (c : Dev nD) (k : Fin 8) : S2x256x1024.Idx → Elt F .f32 :=
  fun i => argC m c (argIx ⟨256 * k.val + (i 1).val, by have h : (i 1).val < 256 := (i 1).isLt; omega⟩ (i 2))

/-! ## The pieces of the buffers, held -/

section Pts
variable (c : Dev nD) (k : Fin 8)
def sPts (f : S2048x512.Idx → Elt F .bf16) : sProp 𝕄 := ((c : Thread nD τ).loc cc0_scratch1) ↦[(rowsR k).set]{fullShare} f
def lPts (f : S2048x512.Idx → Elt F .bf16) : sProp 𝕄 := ((c : Thread nD τ).loc cc0_scratch2) ↦[(rowsR k).set]{fullShare} f
def rPts (f : S2048x512.Idx → Elt F .bf16) : sProp 𝕄 := ((c : Thread nD τ).loc cc0_scratch3) ↦[(rowsR k).set]{fullShare} f
def oPts (f : S2048x512.Idx → Elt F .bf16) : sProp 𝕄 := ((c : Thread nD τ).loc cc0_stg0_0) ↦[(rowsR k).set]{fullShare} f
def bPts (f : S2x256x1024.Idx → Elt F .f32) : sProp 𝕄 := ((c : Thread nD τ).loc cc0_scratch0) ↦[(slotR k).set]{fullShare} f
def aPts (f : S1x2048x1024.Idx → Elt F .f32) : sProp 𝕄 := ((c : Thread nD τ).loc main_arg0) ↦[(chunkR k).set]{fullShare} f
/-- The whole landing buffer, at whatever it holds. -/
def rAny : sProp 𝕄 := iprop(∃ f : Buf (Elt F) ((c : Thread nD τ).loc cc0_scratch3), ((c : Thread nD τ).loc cc0_scratch3) ↦{fullShare} f)

instance sPts_storable (f) : BI.Storable (upEmb : UEmb _ 𝕄) (sPts (F := F) c k f) := by unfold sPts; infer_instance
instance rPts_storable (f) : BI.Storable (upEmb : UEmb _ 𝕄) (rPts (F := F) c k f) := by unfold rPts; infer_instance
instance bPts_storable (f) : BI.Storable (upEmb : UEmb _ 𝕄) (bPts (F := F) c k f) := by unfold bPts; infer_instance
instance aPts_storable (f) : BI.Storable (upEmb : UEmb _ 𝕄) (aPts (F := F) c k f) := by unfold aPts; infer_instance
instance rAny_storable : BI.Storable (upEmb : UEmb _ 𝕄) (rAny (F := F) c) := by unfold rAny; infer_instance
end Pts

/-! ## The schedule -/

/-- A number as a chunk. -/
def chunk (n : ℕ) : Fin 8 := ⟨n % 8, Nat.mod_lt _ (by decide)⟩
theorem chunk_val (k : Fin 8) : chunk k.val = k := Fin.ext (Nat.mod_eq_of_lt k.isLt)

/-- What a wait on DMA semaphore `q` hands device `c` at round `r`: a slot of the two-slot buffer filled with its
    chunk and that chunk of the argument back; the rows sent back; the rows received. -/
def dmaPay (c : Dev nD) (q : Fin 19) (r : ℕ) : sProp 𝕄 :=
  if q.val < 3 then iprop(bPts c (chunk (2 * r + (q.val - 1))) (slotC m c (chunk (2 * r + (q.val - 1)))) ∗ aPts c (chunk (2 * r + (q.val - 1))) (argC m c))
  else if q.val < 11 then sPts c (chunk (q.val - 3)) (sendC m c)
  else rPts c (chunk (q.val - 11)) (recvC m c)

/-- How many rounds DMA semaphore `q` runs: none for the output's, four for a slot's, one for a transfer's. -/
def dmaRounds (q : Fin 19) : ℕ := if q.val = 0 then 0 else if q.val < 3 then 4 else 1

/-- A barrier cell's only round is paid by the peer, with its landing buffer. -/
def rsRd : Rounds.Schedule (GSem nD τ sig) Unit 𝕄 where
  duties g r := match g.2 with
    | .reg s => if g.1.2 = .tc ∧ s = barS ∧ r < 1 then {()} else ∅
    | .dma q => if g.1.2 = .tc ∧ r < dmaRounds q then {()} else ∅
  unitless _ := False
  amount g _ _ := match g.2 with
    | .reg _ => 1
    | .dma q => if q.val < 3 then N₁ else N
  payload g r _ := match g.2 with
    | .reg _ => rAny (peer g.1.1)
    | .dma q => dmaPay m g.1.1 q r
  amount_pos g _ _ _ := by
    split
    · exact Nat.one_pos
    · split
      · exact N₁_pos
      · exact N_pos

instance rsRd_payload_storable (g : GSem nD τ sig) (r : ℕ) (d : Unit) :
    BI.Storable (upEmb : UEmb _ 𝕄) ((rsRd (F := F) m).payload g r d) := by
  obtain ⟨t, s⟩ := g
  cases s with
  | reg s => show BI.Storable upEmb (rAny _); infer_instance
  | dma q =>
    show BI.Storable upEmb (dmaPay m t.1 q r)
    unfold dmaPay
    (repeat' split) <;> infer_instance

section Table
variable (c : Dev nD) (k : Fin 8)

omit [FloatOps F] in
theorem div_lt (k : Fin 8) : k.val / 2 < 4 := by omega

theorem rounds_load : dmaRounds (loadS k) = 4 := by unfold dmaRounds; rw [loadS_val, if_neg (by omega), if_pos (by omega)]
theorem rounds_send : dmaRounds (sendS k) = 1 := by unfold dmaRounds; rw [sendS_val, if_neg (by omega), if_neg (by omega)]
theorem rounds_recv : dmaRounds (recvS k) = 1 := by unfold dmaRounds; rw [recvS_val, if_neg (by omega), if_neg (by omega)]

theorem duties_bar : (rsRd (F := F) m).duties (barCell c) 0 = {()} := by
  dsimp only [rsRd]; exact if_pos ⟨rfl, rfl, Nat.one_pos⟩
theorem duties_load (r : ℕ) (hr : r < 4) : (rsRd (F := F) m).duties (loadCell c k) r = {()} := if_pos ⟨rfl, (rounds_load k).symm ▸ hr⟩
theorem duties_send : (rsRd (F := F) m).duties (sendCell c k) 0 = {()} := if_pos ⟨rfl, (rounds_send k).symm ▸ Nat.one_pos⟩
theorem duties_recv : (rsRd (F := F) m).duties (recvCell c k) 0 = {()} := if_pos ⟨rfl, (rounds_recv k).symm ▸ Nat.one_pos⟩

theorem later_bar : ∀ r, 1 ≤ r → (rsRd (F := F) m).duties (barCell c) r = ∅ :=
  fun r hr => by dsimp only [rsRd]; exact if_neg fun h => by omega
theorem later_load : ∀ r, 4 ≤ r → (rsRd (F := F) m).duties (loadCell c k) r = ∅ :=
  fun r hr => if_neg fun h => by have := h.2; rw [rounds_load] at this; omega
theorem later_send : ∀ r, 1 ≤ r → (rsRd (F := F) m).duties (sendCell c k) r = ∅ :=
  fun r hr => if_neg fun h => by have := h.2; rw [rounds_send] at this; omega
theorem later_recv : ∀ r, 1 ≤ r → (rsRd (F := F) m).duties (recvCell c k) r = ∅ :=
  fun r hr => if_neg fun h => by have := h.2; rw [rounds_recv] at this; omega

theorem amount_bar (r : ℕ) (d : Unit) : (rsRd (F := F) m).amount (barCell c) r d = 1 := rfl
theorem amount_load (r : ℕ) (d : Unit) : (rsRd (F := F) m).amount (loadCell c k) r d = N₁ := if_pos (by rw [loadS_val]; omega)
theorem amount_send (r : ℕ) (d : Unit) : (rsRd (F := F) m).amount (sendCell c k) r d = N := if_neg (by rw [sendS_val]; omega)
theorem amount_recv (r : ℕ) (d : Unit) : (rsRd (F := F) m).amount (recvCell c k) r d = N := if_neg (by rw [recvS_val]; omega)

theorem expect_of {g : GSem nD τ sig} {r n : ℕ} (hd : (rsRd (F := F) m).duties g r = {()}) (ha : (rsRd (F := F) m).amount g r () = n) :
    (rsRd (F := F) m).expect g r = n := by
  unfold Schedule.expect Schedule.amountOf; rw [hd, Finset.sum_singleton, ha]
theorem expect_bar : (rsRd (F := F) m).expect (barCell c) 0 = 1 := expect_of m (duties_bar m c) rfl
theorem expect_load : (rsRd (F := F) m).expect (loadCell c k) (k.val / 2) = N₁ :=
  expect_of m (duties_load m c k _ (div_lt k)) (amount_load m c k _ _)
theorem expect_send : (rsRd (F := F) m).expect (sendCell c k) 0 = N := expect_of m (duties_send m c k) (amount_send m c k _ _)
theorem expect_recv : (rsRd (F := F) m).expect (recvCell c k) 0 = N := expect_of m (duties_recv m c k) (amount_recv m c k _ _)

theorem payload_bar (r : ℕ) (d : Unit) : (rsRd (F := F) m).payload (barCell c) r d = rAny (peer c) := rfl
theorem payload_load (d : Unit) : (rsRd (F := F) m).payload (loadCell c k) (k.val / 2) d = iprop(bPts c k (slotC m c k) ∗ aPts c k (argC m c)) := by
  show dmaPay m c (loadS k) (k.val / 2) = _
  unfold dmaPay
  have e : 2 * (k.val / 2) + ((loadS k).val - 1) = k.val := by rw [loadS_val]; omega
  rw [if_pos (by rw [loadS_val]; omega), e, chunk_val]
theorem payload_send (r : ℕ) (d : Unit) : (rsRd (F := F) m).payload (sendCell c k) r d = sPts c k (sendC m c) := by
  show dmaPay m c (sendS k) r = _
  unfold dmaPay
  have e : (sendS k).val - 3 = k.val := by rw [sendS_val]; omega
  rw [if_neg (by rw [sendS_val]; omega), if_pos (by rw [sendS_val]; omega), e, chunk_val]
theorem payload_recv (r : ℕ) (d : Unit) : (rsRd (F := F) m).payload (recvCell c k) r d = rPts c k (recvC m c) := by
  show dmaPay m c (recvS k) r = _
  unfold dmaPay
  have e : (recvS k).val - 11 = k.val := by rw [recvS_val]; omega
  rw [if_neg (by rw [recvS_val]; omega), if_neg (by rw [recvS_val]; omega), e, chunk_val]

/-- A round's rest before any duty is taken is its one payload. -/
theorem rest_of {g : GSem nD τ sig} {r : ℕ} {P : sProp 𝕄} (hd : (rsRd (F := F) m).duties g r = {()}) (hp : (rsRd (F := F) m).payload g r () = P) :
    bigSep ((rsRd (F := F) m).duties g r \ ∅) (fun d => (rsRd (F := F) m).payload g r d) = P := by
  rw [Finset.sdiff_empty, hd, bigSep_singleton, hp]

end Table

/-! ## What a device owes, and the levels -/

/-- The debt before the last `n` sends: the arrivals at the peer that they pay. -/
def owed (c : Dev nD) : ℕ → CellTallies nD τ sig Unit
  | 0 => 0
  | n + 1 => owed c n + tallyAt (recvCell (peer c) (chunk (7 - n))) () N
/-- The debt at the start: all eight sends and the signal to the peer. -/
def O₀ (c : Dev nD) : CellTallies nD τ sig Unit := owed c 8 + tallyAt (barCell (peer c)) () 1

theorem owed_step (c : Dev nD) (k : Fin 8) : owed c (8 - k.val) = owed c (7 - k.val) + tallyAt (recvCell (peer c) k) () N := by
  have h := k.isLt
  have e : 8 - k.val = (7 - k.val) + 1 := by omega
  rw [e]
  show owed c (7 - k.val) + tallyAt (recvCell (peer c) (chunk (7 - (7 - k.val)))) () N = _
  have e' : 7 - (7 - k.val) = k.val := by omega
  rw [e', chunk_val]

def L (g : GSem nD τ sig) : Finset Unit := if g.1.2 = .tc then {()} else ∅
/-- Barrier cells at 1, arrivals at 2, everything else at 0. -/
def lv (g : GSem nD τ sig) (_ : Unit) : ℕ := match g.2 with
  | .reg _ => 1
  | .dma q => if 11 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 8) (u : Unit) : lv (recvCell c k) u = 2 := if_pos (by rw [recvS_val]; omega)
theorem lv_bar (c : Dev nD) (u : Unit) : lv (barCell c) u = 1 := rfl
theorem lv_dma (c : Dev nD) (q : Fin 19) (hq : q.val < 11) (u : Unit) : lv ((c : Thread nD τ), .dma q) u = 0 := if_neg (by omega)

theorem tally_pos {g g' : GSem nD τ sig} {n : ℕ} {u : Unit} (h : 0 < tallyAt g () n g' u) : g' = g := by
  rw [tallyAt_apply] at h
  by_contra hn
  rw [if_neg (fun h' => hn h'.1)] at h
  exact Nat.lt_irrefl 0 h

theorem owed_pos {c : Dev nD} {n : ℕ} {g : GSem nD τ sig} {u : Unit} (h : 0 < owed c n g u) : ∃ k, g = recvCell (peer c) k := by
  induction n with
  | zero => exact absurd h (Nat.lt_irrefl 0)
  | succ n ih =>
    change 0 < (owed c n + tallyAt (recvCell (peer c) (chunk (7 - n))) () N) g u at h
    rw [Pi.add_apply, Finsupp.add_apply] at h
    rcases Nat.eq_zero_or_pos (owed c n g u) with h0 | h0
    · rw [h0, Nat.zero_add] at h; exact ⟨_, tally_pos h⟩
    · exact ih h0

theorem O₀_pos {c : Dev nD} {g : GSem nD τ sig} {u : Unit} (h : 0 < O₀ c g u) : (∃ k, g = recvCell (peer c) k) ∨ g = barCell (peer c) := by
  unfold O₀ at h
  rw [Pi.add_apply, Finsupp.add_apply] at h
  rcases Nat.eq_zero_or_pos (owed c 8 g u) with h0 | h0
  · rw [h0, Nat.zero_add] at h; exact .inr (tally_pos h)
  · exact .inl (owed_pos h0)

/-- With only sends left to pay, any cell below the arrivals may be waited for. -/
theorem mayWait_owed (c : Dev nD) (sm : SemLoc sig) (hsm : lv ((c : Thread nD τ), sm) () ≤ 1) (n : ℕ) :
    (levAts L lv : sProp 𝕄) ⊢ MayWait (c : Thread nD τ) sm () (owed c n) :=
  MayOwe.of_cut (L := L) (lev := lv) 1 (fun p hp => by rw [Finset.mem_singleton.mp hp, L_tc]; exact Finset.mem_singleton_self _)
    (fun g u hg => by obtain ⟨k, rfl⟩ := owed_pos hg; rw [L_tc]; exact Finset.mem_singleton_self _)
    (fun p hp => by rw [Finset.mem_singleton.mp hp]; exact hsm)
    (fun g u hg => by obtain ⟨k, rfl⟩ := owed_pos hg; rw [lv_recv]; decide)

/-- The output's staging semaphore may be waited for before the body and after it. -/
theorem mayWait_stage (c : Dev nD) (q : Fin 19) (hq : q.val < 11) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl <;> rw [L_tc] <;> exact Finset.mem_singleton_self _)
      (fun p hp => by rw [Finset.mem_singleton.mp hp]; exact le_of_eq (lv_dma c q hq ()))
      (fun g u hg => by
        rcases O₀_pos hg with ⟨k, rfl⟩ | rfl
        · rw [lv_recv]; decide
        · rw [lv_bar]; decide)
  · rw [MayWait_zero]; iintro -; iempintro

end Cert.KernelIdeal.Rs

end
-- ==== Proof.KernelIdeal.Contents.lean ====
/-
# What the pieces leave in the buffers

Each piece of the body writes one chunk's rows of one buffer. Here: what those rows hold afterwards, as the named
contents of the protocol.
-/
module

public import proofs.«01_k».proof.Proof.KernelIdeal.Cells
public import Idealize.ShloMosaic.Lib.Pipeline.Value

@[expose] public section

set_option maxRecDepth 16384

noncomputable section

namespace Cert.KernelIdeal.Rs

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ)

/-- An element of a rectangle is the image of one of its own indices. -/
theorem exists_emb {s : Shape} (r : Rect s) {i : s.Idx} (hi : i ∈ r.set) : ∃ j, r.emb j = i := by
  rw [← Rect.map_emb_univ, Finset.mem_map] at hi
  obtain ⟨j, -, h⟩ := hi
  exact ⟨j, h⟩

theorem argIx_ext {i : S1x2048x1024.Idx} {r : Fin 2048} {j : Fin 1024} (h1 : (i 1).val = r.val) (h2 : (i 2).val = j.val) : i = argIx r j := by
  funext a
  match a with
  | 0 => exact Subsingleton.elim (α := Fin 1) _ _
  | 1 => exact Fin.ext h1
  | 2 => exact Fin.ext h2

/-- The copy of chunk `k` of the argument leaves the chunk in its slot. -/
theorem slot_copied (c : Dev nD) (k : Fin 8) (g : S2x256x1024.Idx → Elt F .f32) (i : S2x256x1024.Idx) (hi : i ∈ (slotR k).set) :
    (slotM k).view.write (Elt F) g ((chunkM k).view.read (Elt F) (argC m c)) Finset.univ i = slotC m c k i := by
  obtain ⟨j, rfl⟩ := exists_emb _ hi
  obtain ⟨x, rfl⟩ := (Shape.reshapeEquiv (s := S1x256x1024) (s' := S256x1024) squeezes_S1x256x1024_S256x1024.numel_eq).surjective j
  refine (View.write_emb_of_mem (v := (slotM k).view) _ _ (Finset.mem_univ x)).trans ?_
  show argC m c ((chunkR k).emb _) = argC m c (argIx _ _)
  refine congrArg (argC m c) (argIx_ext ?_ ?_)
  · show 256 * k.val + 1 * _ = 256 * k.val + (0 + 1 * _)
    rw [Nat.zero_add]
    rfl
  · rfl

/-- The cast of a half of a chunk, read at an element. -/
theorem pay_apply (v : Vec F S1x256x512 .f32) (j : S256x512.Idx) (x : S1x256x512.Idx) (h1 : (x 1).val = (j 0).val) (h2 : (x 2).val = (j 1).val) :
    k0_pay1 v j = FloatOps.truncf .bf16 bitsLt_bf16_f32 (v x) := by
  show shapeCast S256x512 (truncf .bf16 (shapeCast S256x512 v _) bitsLt_bf16_f32) _ j = _
  rw [shapeCast_self]
  show FloatOps.truncf .bf16 bitsLt_bf16_f32 (shapeCast S256x512 v _ j) = _
  refine congrArg _ (shapeCast_apply _ _ _ x ?_)
  rw [Shape.rowMajor_val_three, Shape.rowMajor_val_two]
  have h0 : (x 0).val = 0 := by have : (x 0).val < 1 := (x 0).isLt; omega
  rw [h0, h1, h2]
  simp

/-- The index of a half's block of one slot at row and column of `j`. -/
def halfIx (j : S256x512.Idx) : S1x256x512.Idx := fun a => match a with
  | 0 => (0 : Fin 1)
  | 1 => j 0
  | 2 => j 1

/-- A half of chunk `k` starting at column `q`, cast: its element at `j`. -/
theorem half_apply (c : Dev nD) (k : Fin 8) (q : ℕ) (op : Fin 3 → ℕ) (hop : op = ![k.val % 2, 0, q])
    (hp : ∀ a, op a + S1x256x512.size a ≤ S2x256x1024.size a) (j : S256x512.Idx) (r : Fin 2048) (t : Fin 1024)
    (hr : r.val = 256 * k.val + (j 0).val) (ht : t.val = q + (j 1).val) :
    k0_pay1 (bM.view.readAt (Elt F) (Rect.unit (s := S2x256x1024) op S1x256x512.size hp).toLoadRect (slotC m c k)) j
      = FloatOps.truncf .bf16 bitsLt_bf16_f32 (argC m c (argIx r t)) := by
  subst hop
  refine (pay_apply _ j (halfIx j) rfl rfl).trans (congrArg _ ?_)
  show argC m c (argIx _ _) = _
  refine congrArg (argC m c) (argIx_ext ?_ ?_)
  · show 256 * k.val + (0 + 1 * (j 0).val) = r.val
    omega
  · show q + 1 * (j 1).val = t.val
    omega

/-- The half at the peer's columns, stored, is what the device sends. -/
theorem send_stored (c : Dev nD) (k : Fin 8) (op : Fin 3 → ℕ) (hop : op = ![k.val % 2, 0, 512 - 512 * (c.val / 16)])
    (hp : ∀ a, op a + S1x256x512.size a ≤ S2x256x1024.size a) (g : S2048x512.Idx → Elt F .bf16) (i : S2048x512.Idx) (hi : i ∈ (rowsR k).set) :
    (sM.access (rowsR k)).write (Elt F) g
      (k0_pay1 (bM.view.readAt (Elt F) (Rect.unit (s := S2x256x1024) op S1x256x512.size hp).toLoadRect (slotC m c k))) Finset.univ i = sendC m c i := by
  obtain ⟨j, rfl⟩ := exists_emb _ hi
  refine (View.write_emb_of_mem (v := sM.access (rowsR k)) _ _ (Finset.mem_univ j)).trans ?_
  refine (half_apply m c k _ op hop hp j ((rowsR k).emb j 0) (colP c ((rowsR k).emb j 1)) ?_ ?_)
  · show 256 * k.val + 1 * (j 0).val = _
    omega
  · show 512 - 512 * (c.val / 16) + (0 + 1 * (j 1).val) = _
    omega

/-- The half at the device's own columns, stored, is what it keeps. -/
theorem local_stored (c : Dev nD) (k : Fin 8) (op : Fin 3 → ℕ) (hop : op = ![k.val % 2, 0, 512 * (c.val / 16)])
    (hp : ∀ a, op a + S1x256x512.size a ≤ S2x256x1024.size a) (g : S2048x512.Idx → Elt F .bf16) (i : S2048x512.Idx) (hi : i ∈ (rowsR k).set) :
    (lM.access (rowsR k)).write (Elt F) g
      (k0_pay1 (bM.view.readAt (Elt F) (Rect.unit (s := S2x256x1024) op S1x256x512.size hp).toLoadRect (slotC m c k))) Finset.univ i = localC m c i := by
  obtain ⟨j, rfl⟩ := exists_emb _ hi
  refine (View.write_emb_of_mem (v := lM.access (rowsR k)) _ _ (Finset.mem_univ j)).trans ?_
  refine (half_apply m c k _ op hop hp j ((rowsR k).emb j 0) (colO c ((rowsR k).emb j 1)) ?_ ?_)
  · show 256 * k.val + 1 * (j 0).val = _
    omega
  · show 512 * (c.val / 16) + (0 + 1 * (j 1).val) = _
    omega

/-- The rows sent by `c` are, once landed, what its peer receives. -/
theorem recv_landed (c : Dev nD) (k : Fin 8) (g : S2048x512.Idx → Elt F .bf16) (i : S2048x512.Idx) (hi : i ∈ (rowsR k).set) :
    (rRow k).view.write (Elt F) g ((sRow k).view.read (Elt F) (sendC m c)) Finset.univ i = recvC m (peer c) i := by
  obtain ⟨j, rfl⟩ := exists_emb _ hi
  refine (View.write_emb_of_mem (v := (rRow k).view) _ _ (Finset.mem_univ j)).trans ?_
  unfold recvC
  rw [peer_peer]
  rfl

/-- The sum of the kept and the received rows, stored, is the result. -/
theorem out_stored (c : Dev nD) (k : Fin 8) (g : S2048x512.Idx → Elt F .bf16) (i : S2048x512.Idx) (hi : i ∈ (rowsR k).set) :
    (oM.access (rowsR k)).write (Elt F) g
      (k0_pay19 (lM.view.readAt (Elt F) (rowsR k).toLoadRect (localC m c)) (rM.view.readAt (Elt F) (rowsR k).toLoadRect (recvC m c))) Finset.univ i
        = outC m c i := by
  obtain ⟨j, rfl⟩ := exists_emb _ hi
  exact View.write_emb_of_mem (v := oM.access (rowsR k)) _ _ (Finset.mem_univ j)

end Cert.KernelIdeal.Rs

end
-- ==== Proof.KernelIdeal.Steps.lean ====
/-
# The pieces, one rule each

What each piece of the body needs and leaves, at any chunk: the copy out of the argument started (`issue`), waited
for and cast (`fill`), the rows sent (`send`), the arrival waited for and added (`collect`), the send waited for
(`drain`).
-/
module

public import proofs.«01_k».proof.Proof.KernelIdeal.Contents

@[expose] public section

set_option maxRecDepth 16384

noncomputable section

namespace Cert.KernelIdeal.Rs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## The pieces held, as the views of the body name them -/

section Views
variable (c : Dev nD) (k : Fin 8)

theorem sPts_view (f : S2048x512.Idx → Elt F .bf16) :
    sPts c k f = (((sRow k).view.loc (c : Thread nD τ)) ↦[(sRow k).view.set]{fullShare} f : sProp 𝕄) := by
  unfold sPts
  rw [show (sRow k).view.set = (rowsR k).set from View.set_slice_whole cc0_scratch1 (rowsR k)]
theorem rPts_view (f : S2048x512.Idx → Elt F .bf16) :
    rPts c k f = (((rRow k).view.loc (c : Thread nD τ)) ↦[(rRow k).view.set]{fullShare} f : sProp 𝕄) := by
  unfold rPts
  rw [show (rRow k).view.set = (rowsR k).set from View.set_slice_whole cc0_scratch3 (rowsR k)]
theorem bPts_view (f : S2x256x1024.Idx → Elt F .f32) :
    bPts c k f = (((slotM k).view.loc (c : Thread nD τ)) ↦[(slotM k).view.set]{fullShare} f : sProp 𝕄) := by
  unfold bPts
  rw [show (slotM k).view.set = (slotR k).set from (View.set_reshape _ _).trans (View.set_slice_whole cc0_scratch0 (slotR k))]
theorem aPts_view (f : S1x2048x1024.Idx → Elt F .f32) :
    aPts c k f = (((chunkM k).view.loc (c : Thread nD τ)) ↦[(chunkM k).view.set]{fullShare} f : sProp 𝕄) := by
  unfold aPts
  rw [show (chunkM k).view.set = (chunkR k).set from (View.set_reshape _ _).trans (View.set_slice_whole main_arg0 (chunkR k))]

end Views

/-! ## The slots by parity -/

/-- The lane of chunk number `n`: one of the two slots. -/
def par (n : ℕ) : Fin 8 := ⟨n % 2, by omega⟩

theorem par_add (n : ℕ) : par (n + 2) = par n := Fin.ext (by show (n + 2) % 2 = n % 2; omega)

theorem slotR_eq {k k' : Fin 8} (h : k.val % 2 = k'.val % 2) : slotR k = slotR k' := by
  have aux : ∀ (a b : ℕ) (_ : a = b) (ha : ∀ x, (![a, 0, 0] : Fin 3 → ℕ) x + S1x256x1024.size x ≤ S2x256x1024.size x)
      (hb : ∀ x, (![b, 0, 0] : Fin 3 → ℕ) x + S1x256x1024.size x ≤ S2x256x1024.size x),
      Rect.unit (s := S2x256x1024) ![a, 0, 0] S1x256x1024.size ha = Rect.unit (s := S2x256x1024) ![b, 0, 0] S1x256x1024.size hb := by
    rintro a b rfl ha hb; rfl
  exact aux _ _ h _ _

theorem loadS_eq {k k' : Fin 8} (h : k.val % 2 = k'.val % 2) : loadS k = loadS k' := by
  apply Fin.ext; rw [loadS_val, loadS_val, h]

theorem loadCell_par (c : Dev nD) (n : ℕ) (hn : n < 8) : loadCell c ⟨n, hn⟩ = loadCell c (par n) := by
  unfold loadCell; rw [loadS_eq (k := ⟨n, hn⟩) (k' := par n) (by show n % 2 = n % 2 % 2; omega)]
theorem bPts_par (c : Dev nD) (n : ℕ) (hn : n < 8) (f : S2x256x1024.Idx → Elt F .f32) :
    (bPts c ⟨n, hn⟩ f : sProp 𝕄) = bPts c (par n) f := by
  unfold bPts; rw [slotR_eq (k := ⟨n, hn⟩) (k' := par n) (by show n % 2 = n % 2 % 2; omega)]

/-! ## The shared records -/

variable (K : Dev nD × Fin 19 → ℕ)

/-- The invariants of every device's cells, under the names `K`, and that every cell has reached its first round. -/
def records : sProp 𝕄 :=
  iprop(bigSep Finset.univ (fun ck : Dev nD × Fin 19 => cellInv ER (rsRd m) (K ck) (kcell ck))
    ∗ bigSep Finset.univ (fun ck : Dev nD × Fin 19 => reached ER (kcell ck) 0))

instance records_persistent : BI.Persistent (records m K) := by unfold records; infer_instance

theorem records_inv (ck : Dev nD × Fin 19) : records m K ⊢ cellInv ER (rsRd m) (K ck) (kcell ck) := by
  unfold records
  exact sep_elim_left.trans (bigSep_elim (Finset.mem_univ ck) (Φ := fun ck => cellInv ER (rsRd m) (K ck) (kcell ck)))
theorem records_reached (ck : Dev nD × Fin 19) : records m K ⊢ reached ER (kcell ck) 0 := by
  unfold records
  exact sep_elim_right.trans (bigSep_elim (Finset.mem_univ ck) (Φ := fun ck => reached ER (kcell ck) 0))

theorem inv_bar (c : Dev nD) : records m K ⊢ cellInv ER (rsRd m) (K (c, 0)) (barCell c) := records_inv m K (c, 0)
theorem inv_load (c : Dev nD) (k : Fin 8) : records m K ⊢ cellInv ER (rsRd m) (K (c, jLoad k)) (loadCell c k) := by
  rw [← kcell_load]; exact records_inv m K (c, jLoad k)
theorem inv_send (c : Dev nD) (k : Fin 8) : records m K ⊢ cellInv ER (rsRd m) (K (c, jSend k)) (sendCell c k) := by
  rw [← kcell_send]; exact records_inv m K (c, jSend k)
theorem inv_recv (c : Dev nD) (k : Fin 8) : records m K ⊢ cellInv ER (rsRd m) (K (c, jRecv k)) (recvCell c k) := by
  rw [← kcell_recv]; exact records_inv m K (c, jRecv k)
theorem reached_bar (c : Dev nD) : records m K ⊢ reached ER (barCell c) 0 := records_reached m K (c, 0)
theorem reached_load (c : Dev nD) (k : Fin 8) : records m K ⊢ reached ER (loadCell c k) 0 := by
  rw [← kcell_load]; exact records_reached m K (c, jLoad k)
theorem reached_send (c : Dev nD) (k : Fin 8) : records m K ⊢ reached ER (sendCell c k) 0 := by
  rw [← kcell_send]; exact records_reached m K (c, jSend k)
theorem reached_recv (c : Dev nD) (k : Fin 8) : records m K ⊢ reached ER (recvCell c k) 0 := by
  rw [← kcell_recv]; exact records_reached m K (c, jRecv k)

/-! ## The rules -/

/-- What device `c` still owes, whatever it has waited for. -/
def due (c : Dev nD) (O : CellTallies nD τ sig Unit) : sProp 𝕄 := iprop(∃ W, owes (c : Thread nD τ) O W)

/-- A program of device `c` runs to `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (c : Dev nD)

/-- Starting chunk `k`'s copy gives up its slot and its chunk of the argument for a credit on the slot's cell. -/
theorem issue_rule (k : Fin 8) {Q : PUnit.{1} → sProp 𝕄} :
    iprop(records m K ∗ (∃ f, bPts c k f) ∗ aPts c k (argC m c) ∗ dutyTok ER (loadCell c k) (k.val / 2) () ∗ reached ER (loadCell c k) (k.val / 2))
      ⊢ iprop((cred (tallyAt (loadCell c k) () N₁) -∗ Q ⟨⟩) -∗ runs c (issue k) Q) := by
  iintro ⟨#HR, ⟨%f, Hb⟩, Ha, Ht, #Hr⟩ HQ
  unfold runs issue Prog.lift
  have hd : () ∈ (rsRd (F := F) m).duties (loadCell c k) (k.val / 2) := by rw [duties_load m c k _ (div_lt k)]; exact Finset.mem_singleton_self _
  have hpay : iprop(((slotM k).view.loc (c : Thread nD τ) ↦[(slotM k).view.set]{fullShare}
        ((slotM k).view.write (Elt F) f ((chunkM k).view.read (Elt F) (argC m c)) Finset.univ))
      ∗ ((chunkM k).view.loc (c : Thread nD τ) ↦[(chunkM k).view.set]{fullShare} (argC m c)))
      ⊢ (rsRd (F := F) m).payload (loadCell c k) (k.val / 2) () := by
    rw [payload_load, bPts_view, aPts_view]
    refine sep_mono_left (Entails.of_eq (pointsTo_congr fun i hi => ?_))
    exact slot_copied m c k f i (by
      rw [show (slotM k).view.set = (slotR k).set from (View.set_reshape _ _).trans (View.set_slice_whole cc0_scratch0 (slotR k))] at hi; exact hi)
  ihave Hb := (Entails.of_eq (bPts_view c k f)) $$ Hb
  ihave Ha := (Entails.of_eq (aPts_view c k (argC m c))) $$ Ha
  iapply (Rounds.wp_copy_pointsTo 𝒱₀ ER (rsRd m) (c : Thread nD τ) none (κ := K (c, jLoad k)) (src := chunkM k) (dst := slotM k) (sem := .dma (loadS k))
    (q := fullShare) (fs := argC m c) (fd := f) (r := k.val / 2) (d := ()) hd () N₁ (credit_slot k) (amount_load m c k _ ()) hpay) $$ [Hb Ha Ht]
  · isplitr; · iapply (inv_load m K c k); iexact HR
    isplitl [Ha]; · iexact Ha
    isplitl [Hb]; · iexact Hb
    isplitl [Ht]; · iexact Ht
    iexact Hr
  iintro Hc
  rw [wp_ret]; imodintro
  iapply HQ; iexact Hc

/-! ## Where the accesses lie -/

/-- An access of a whole buffer through a rectangle stays in the rectangle. -/
theorem within_load (b : Ref sig .tc) (r : Rect b.ty.shape) : (View.whole b).setOn r.toLoadRect.set ⊆ r.set :=
  ((View.set_slice (View.whole b) r).symm.trans (View.set_slice_whole b r)).subset
theorem within_store (b : Ref sig .tc) (r : Rect b.ty.shape) : ((View.whole b).slice r).setOn Finset.univ ⊆ r.set :=
  (View.set_slice_whole b r).subset

/-- A half of a slot lies in the slot. -/
theorem half_within (k : Fin 8) (q : ℕ) (op : Fin 3 → ℕ) (hop : op = ![k.val % 2, 0, q])
    (hp : ∀ a, op a + S1x256x512.size a ≤ S2x256x1024.size a) :
    bM.view.setOn (Rect.unit (s := S2x256x1024) op S1x256x512.size hp).toLoadRect.set ⊆ (slotR k).set := by
  subst hop
  refine (within_load cc0_scratch0 (Rect.unit (s := S2x256x1024) ![k.val % 2, 0, q] S1x256x512.size hp)).trans ?_
  intro i hi
  rw [Rect.mem_set_unit] at hi ⊢
  have h0 := hi 0
  have h1 := hi 1
  have h2 : (i 2).val < 1024 := (i 2).isLt
  intro a
  match a with
  | 0 => exact h0
  | 1 => exact h1
  | 2 => exact ⟨Nat.zero_le _, by show (i 2).val < 0 + 1024; omega⟩

/-- Waiting for chunk `k`'s copy and casting its halves: the slot and the chunk of the argument come back, the rows
    of the send and of the local buffer hold the two halves. -/
theorem fill_rule (k : Fin 8) (op oo : Fin 3 → ℕ) (hp : ∀ a, op a + S1x256x512.size a ≤ S2x256x1024.size a)
    (ho : ∀ a, oo a + S1x256x512.size a ≤ S2x256x1024.size a)
    (hop : op = ![k.val % 2, 0, 512 - 512 * (c.val / 16)]) (hoo : oo = ![k.val % 2, 0, 512 * (c.val / 16)])
    (n : ℕ) {Q : PUnit.{1} → sProp 𝕄} :
    iprop(records m K ∗ levAts L lv ∗ cred (tallyAt (loadCell c k) () N₁) ∗ due c (owed c n) ∗ atPos ER (loadCell c k) (k.val / 2) ∅ 0
        ∗ (∃ f, sPts c k f) ∗ (∃ f, lPts c k f))
      ⊢ iprop(((due c (owed c n) ∗ atPos ER (loadCell c k) (k.val / 2 + 1) ∅ 0 ∗ reached ER (loadCell c k) (k.val / 2 + 1)
          ∗ (∃ f, bPts c k f) ∗ aPts c k (argC m c) ∗ sPts c k (sendC m c) ∗ lPts c k (localC m c)) -∗ Q ⟨⟩) -∗ runs c (fill k op oo hp ho) Q) := by
  unfold due
  iintro ⟨#HR, #Hlev, Hc, ⟨%W, HO⟩, Hat, ⟨%fs, Hs⟩, ⟨%fl, Hl⟩⟩ HQ
  unfold runs fill
  simp only [Prog.lift, Prog.bind_op, Prog.bind_ret]
  iapply (Rounds.wp_wait_rest_token 𝒱₀ ER (rsRd m) (c : Thread nD τ) none (κ := K (c, jLoad k))
      (wpE_waitDma2_eq 𝒱₀ (c : Thread nD τ) none Set.univ) (Set.mem_univ _) () (O := owed c n) (W := W) (R := k.val / 2) (m := 0) (T := ∅)
      (by rw [Nat.zero_add, expect_load]; exact credit_slot k)) $$ [Hc HO Hat]
  · isplitr; · iapply (inv_load m K c k); iexact HR
    isplitl [Hc]; · iexact Hc
    isplitl [HO]; · iexact HO
    isplitr; · iapply (mayWait_owed c (.dma (loadS k)) (by rw [lv_dma c _ (by rw [loadS_val]; omega)]; decide) n); iexact Hlev
    iexact Hat
  iintro ⟨HO, Hat, Hr, Hpay⟩
  ihave Hp := (Entails.of_eq (rest_of m (duties_load m c k _ (div_lt k)) (payload_load m c k ()))) $$ Hpay
  icases Hp with ⟨Hb, Ha⟩
  unfold bPts sPts lPts
  iapply (wp_load 𝒱₀ (c : Thread nD τ) none Set.univ (m := bM) (half_within k _ op hop hp)) $$ Hb; iintro Hb
  iapply (wp_load 𝒱₀ (c : Thread nD τ) none Set.univ (m := sM) (within_load cc0_scratch1 (rowsR k))) $$ Hs; iintro Hs
  iapply (wp_store 𝒱₀ (c : Thread nD τ) none Set.univ (m := sM) (r := rowsR k) (Mk := Finset.univ) (within_store cc0_scratch1 (rowsR k))) $$ Hs; iintro Hs
  iapply (wp_load 𝒱₀ (c : Thread nD τ) none Set.univ (m := bM) (half_within k _ oo hoo ho)) $$ Hb; iintro Hb
  iapply (wp_load 𝒱₀ (c : Thread nD τ) none Set.univ (m := lM) (within_load cc0_scratch2 (rowsR k))) $$ Hl; iintro Hl
  iapply (wp_store 𝒱₀ (c : Thread nD τ) none Set.univ (m := lM) (r := rowsR k) (Mk := Finset.univ) (within_store cc0_scratch2 (rowsR k))) $$ Hl; iintro Hl
  rw [wp_ret]; imodintro
  iapply HQ
  isplitl [HO]; · iexists _; iexact HO
  isplitl [Hat]; · iexact Hat
  isplitl [Hr]; · iexact Hr
  isplitl [Hb]; · iexists _; iexact Hb
  isplitl [Ha]; · iexact Ha
  isplitl [Hs]
  · iapply (Entails.of_eq (pointsTo_congr (send_stored m c k op hop hp fs))); iexact Hs
  · iapply (Entails.of_eq (pointsTo_congr (local_stored m c k oo hoo ho fl))); iexact Hl

/-- Sending chunk `k`'s rows gives up the rows and the peer's landing rows for a credit on the send cell. -/
theorem send_rule (k : Fin 8) (n : Dev nD) (hn : n = peer c) {Q : PUnit.{1} → sProp 𝕄} :
    iprop(records m K ∗ due c (owed c (8 - k.val)) ∗ sPts c k (sendC m c) ∗ (∃ f, rPts (peer c) k f)
        ∗ dutyTok ER (sendCell c k) 0 () ∗ dutyTok ER (recvCell (peer c) k) 0 ())
      ⊢ iprop(((due c (owed c (7 - k.val)) ∗ cred (tallyAt (sendCell c k) () N)) -∗ Q ⟨⟩) -∗ runs c (send k n) Q) := by
  subst hn
  unfold due
  iintro ⟨#HR, ⟨%W, HO⟩, Hs, ⟨%f, Hr⟩, Ht, Ht'⟩ HQ
  unfold runs send Prog.lift
  have hd₁ : () ∈ (rsRd (F := F) m).duties (sendCell c k) 0 := by rw [duties_send]; exact Finset.mem_singleton_self _
  have hd₂ : () ∈ (rsRd (F := F) m).duties (recvCell (peer c) k) 0 := by rw [duties_recv]; exact Finset.mem_singleton_self _
  ihave Hs := (Entails.of_eq (sPts_view c k (sendC m c))) $$ Hs
  ihave Hr := (Entails.of_eq (rPts_view (peer c) k f)) $$ Hr
  iapply (Rounds.wp_send_pointsTo 𝒱₀ ER (rsRd m) (c : Thread nD τ) none (κ₁ := K (c, jSend k)) (κ₂ := K (peer c, jRecv k))
      (c' := (Dev.tc (peer c) : Thread nD τ)) (src := sRow k) (dst := rRow k) (q := fullShare) (fs := sendC m c)
      (r₁ := 0) (r₂ := 0) (d₁ := ()) (d₂ := ()) (fd := f) hd₁ hd₂ () () N rfl (amount_send m c k 0 ()) (amount_recv m (peer c) k 0 ())
      (owed c (7 - k.val)) (owed_step c k) (W := W)
      (by rw [payload_send, sPts_view])
      (by
        rw [payload_recv, rPts_view]
        exact Entails.of_eq (pointsTo_congr fun i hi => recv_landed m c k f i (by
          rw [show (rRow k).view.set = (rowsR k).set from View.set_slice_whole cc0_scratch3 (rowsR k)] at hi; exact hi)))) $$ [Hs Hr HO Ht Ht']
  · isplitr; · iapply (inv_send m K c k); iexact HR
    isplitr; · iapply (inv_recv m K (peer c) k); iexact HR
    isplitl [Hs]; · iexact Hs
    isplitl [Hr]; · iexact Hr
    isplitl [HO]; · iexact HO
    isplitl [Ht]; · iexact Ht
    isplitr; · iapply (reached_send m K c k); iexact HR
    isplitl [Ht']; · iexact Ht'
    iapply (reached_recv m K (peer c) k); iexact HR
  iintro ⟨Hc, HO⟩
  rw [wp_ret]; imodintro
  iapply HQ
  isplitl [HO]; · iexists W; iexact HO
  iexact Hc

/-- Waiting for chunk `k`'s arrival and adding: the rows of the result hold the sum, and the arrival's cell is
    closed. -/
theorem collect_rule (k : Fin 8) {Q : PUnit.{1} → sProp 𝕄} :
    iprop(records m K ∗ due c 0 ∗ cred (tallyAt (recvCell c k) () N) ∗ atPos ER (recvCell c k) 0 ∅ 0
        ∗ lPts c k (localC m c) ∗ (∃ f, oPts c k f))
      ⊢ iprop(((due c 0 ∗ semVal (recvCell c k) 0 ∗ lPts c k (localC m c) ∗ rPts c k (recvC m c) ∗ oPts c k (outC m c)) -∗ Q ⟨⟩)
          -∗ runs c (collect k) Q) := by
  unfold due
  iintro ⟨#HR, ⟨%W, HO⟩, Hc, Hat, Hl, ⟨%fo, Ho⟩⟩ HQ
  unfold runs collect
  simp only [Prog.lift, Prog.bind_op, Prog.bind_ret]
  iapply (Rounds.wp_wait_rest_token 𝒱₀ ER (rsRd m) (c : Thread nD τ) none (κ := K (c, jRecv k))
      (wpE_waitDma2_eq 𝒱₀ (c : Thread nD τ) none Set.univ) (Set.mem_univ _) () (O := 0) (W := W) (R := 0) (m := 0) (T := ∅)
      (by rw [Nat.zero_add, expect_recv]; exact credit_r k)) $$ [Hc HO Hat]
  · isplitr; · iapply (inv_recv m K c k); iexact HR
    isplitl [Hc]; · iexact Hc
    isplitl [HO]; · iexact HO
    isplitr; · rw [MayWait_zero]; iempintro
    iexact Hat
  iintro ⟨HO, Hat, -, Hpay⟩
  ihave Hr := (Entails.of_eq (rest_of m (duties_recv m c k) (payload_recv m c k 0 ()))) $$ Hpay
  imod (Rounds.cell_close ER (rsRd m) (Set.mem_univ (K (c, jRecv k))) (fun h => h) (R := 0 + 1) (later_recv m c k)) $$ [Hat] with Hz
  · isplitr; · iapply (inv_recv m K c k); iexact HR
    iexact Hat
  unfold lPts rPts oPts
  iapply (wp_load 𝒱₀ (c : Thread nD τ) none Set.univ (m := lM) (within_load cc0_scratch2 (rowsR k))) $$ Hl; iintro Hl
  iapply (wp_load 𝒱₀ (c : Thread nD τ) none Set.univ (m := rM) (within_load cc0_scratch3 (rowsR k))) $$ Hr; iintro Hr
  iapply (wp_load 𝒱₀ (c : Thread nD τ) none Set.univ (m := oM) (within_load cc0_stg0_0 (rowsR k))) $$ Ho; iintro Ho
  iapply (wp_store 𝒱₀ (c : Thread nD τ) none Set.univ (m := oM) (r := rowsR k) (Mk := Finset.univ) (within_store cc0_stg0_0 (rowsR k))) $$ Ho; iintro Ho
  rw [wp_ret]; imodintro
  iapply HQ
  isplitl [HO]; · iexists _; iexact HO
  isplitl [Hz]; · iexact Hz
  isplitl [Hl]; · iexact Hl
  isplitl [Hr]; · iexact Hr
  iapply (Entails.of_eq (pointsTo_congr (out_stored m c k fo))); iexact Ho

/-- Waiting for chunk `k`'s send: its rows come back and the send's cell is closed. -/
theorem drain_rule (k : Fin 8) {Q : PUnit.{1} → sProp 𝕄} :
    iprop(records m K ∗ due c 0 ∗ cred (tallyAt (sendCell c k) () N) ∗ atPos ER (sendCell c k) 0 ∅ 0)
      ⊢ iprop(((due c 0 ∗ semVal (sendCell c k) 0 ∗ sPts c k (sendC m c)) -∗ Q ⟨⟩) -∗ runs c (drain k) Q) := by
  unfold due
  iintro ⟨#HR, ⟨%W, HO⟩, Hc, Hat⟩ HQ
  unfold runs drain Prog.lift
  iapply (Rounds.wp_wait_rest_token 𝒱₀ ER (rsRd m) (c : Thread nD τ) none (κ := K (c, jSend k))
      (wpE_waitDma2_eq 𝒱₀ (c : Thread nD τ) none Set.univ) (Set.mem_univ _) () (O := 0) (W := W) (R := 0) (m := 0) (T := ∅)
      (by rw [Nat.zero_add, expect_send]; exact credit_s k)) $$ [Hc HO Hat]
  · isplitr; · iapply (inv_send m K c k); iexact HR
    isplitl [Hc]; · iexact Hc
    isplitl [HO]; · iexact HO
    isplitr; · rw [MayWait_zero]; iempintro
    iexact Hat
  iintro ⟨HO, Hat, -, Hpay⟩
  ihave Hs := (Entails.of_eq (rest_of m (duties_send m c k) (payload_send m c k 0 ()))) $$ Hpay
  imod (Rounds.cell_close ER (rsRd m) (Set.mem_univ (K (c, jSend k))) (fun h => h) (R := 0 + 1) (later_send m c k)) $$ [Hat] with Hz
  · isplitr; · iapply (inv_send m K c k); iexact HR
    iexact Hat
  rw [wp_ret]; imodintro
  iapply HQ
  isplitl [HO]; · iexists _; iexact HO
  isplitl [Hz]; · iexact Hz
  iexact Hs

/-- The handshake at the barrier: the device hands its landing buffer to its peer and gets the peer's. -/
theorem greet_rule (n : Dev nD) (hn : n = peer c) {Q : PUnit.{1} → sProp 𝕄} :
    iprop(records m K ∗ levAts L lv ∗ due c (O₀ c) ∗ cred (tallyAt (barCell c) () 1) ∗ atPos ER (barCell c) 0 ∅ 0
        ∗ dutyTok ER (barCell (peer c)) 0 () ∗ rAny c)
      ⊢ iprop(((due c (owed c 8) ∗ semVal (barCell c) 0 ∗ rAny (peer c)) -∗ Q ⟨⟩)
          -∗ runs c (greet n) Q) := by
  subst hn
  unfold due
  iintro ⟨#HR, #Hlev, ⟨%W, HO⟩, Hc, Hat, Ht, Hr⟩ HQ
  unfold runs greet
  simp only [semSignalWord, semWaitWord, Prog.lift, Prog.bind_op, Prog.bind_ret]
  iapply (Rounds.wp_signal 𝒱₀ ER (rsRd m) (c : Thread nD τ) none (dst := (peer c : Thread nD τ)) (κ := K (peer c, 0))
      (r := 0) (d := ()) (by rw [duties_bar]; exact Finset.mem_singleton_self _) ((amount_bar m (peer c) 0 ()).trans (by decide)) () (owed c 8) rfl)
    $$ [HO Ht Hr]
  · isplitr; · iapply (inv_bar m K (peer c)); iexact HR
    isplitl [HO]; · iexact HO
    isplitl [Ht]; · iexact Ht
    isplitl [Hr]; · rw [payload_bar, peer_peer]; iexact Hr
    iapply (reached_bar m K (peer c)); iexact HR
  iintro HO
  iapply (Rounds.wp_wait_rest_token 𝒱₀ ER (rsRd m) (c : Thread nD τ) none (κ := K (c, 0))
      (wpE_semWait_eq 𝒱₀ (c : Thread nD τ) none Set.univ) (Set.mem_univ _) () (O := owed c 8) (W := W) (R := 0) (m := 0) (T := ∅)
      (by rw [expect_bar]; decide)) $$ [Hc HO Hat]
  · isplitr; · iapply (inv_bar m K c); iexact HR
    isplitl [Hc]; · iexact Hc
    isplitl [HO]; · iexact HO
    isplitr; · iapply (mayWait_owed c (.reg barS) (le_of_eq (lv_bar c ())) 8); iexact Hlev
    iexact Hat
  iintro ⟨HO, Hat, -, Hpay⟩
  ihave Hr := (Entails.of_eq (rest_of m (duties_bar m c) (payload_bar m c 0 ()))) $$ Hpay
  imod (Rounds.cell_close ER (rsRd m) (Set.mem_univ (K (c, 0))) (fun h => h) (R := 0 + 1) (later_bar m c)) $$ [Hat] with Hz
  · isplitr; · iapply (inv_bar m K c); iexact HR
    iexact Hat
  rw [wp_ret]; imodintro
  iapply HQ
  isplitl [HO]; · iexists _; iexact HO
  isplitl [Hz]; · iexact Hz
  iexact Hr

/-- The cell of a slot closes after its four rounds. -/
theorem close_load (k : Fin 8) : iprop(records m K ∗ atPos ER (loadCell c k) 4 ∅ 0) ⊢ iprop(|={Set.univ}=> semVal (loadCell c k) 0) := by
  iintro ⟨#HR, Hat⟩
  iapply (Rounds.cell_close ER (rsRd m) (Set.mem_univ (K (c, jLoad k))) (fun h => h) (R := 4) (later_load m c k))
  isplitr; · iapply (inv_load m K c k); iexact HR
  iexact Hat

end Cert.KernelIdeal.Rs

end
-- ==== Proof.KernelIdeal.Turns.lean ====
/-
# The turns, in order

A piece of the body takes a device from one holding to another (`triple`). This module chains the pieces: the
handshake, the eight turns, the eight arrivals and the eight departures. Each holding is stated over the number of
the chunks done, so that a step is proved once and used at each chunk.
-/
module

public import proofs.«01_k».proof.Proof.KernelIdeal.Steps
public import Idealize.ShloMosaic.Lib.Ring

@[expose] public section

set_option maxRecDepth 16384

noncomputable section

namespace Cert.KernelIdeal.Rs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet bigSep_rangeSet_head bigSep_rangeSet_last bigSep_rangeSet_empty rangeSet_empty_high rangeSet_univ)

variable {F : FTy → Type} [FloatOps F]

local notation "𝕄" => MT nD τ sig Unit (Elt F) ℕ UU ℕ

variable (m : (ℓ : Loc nD τ sig) → Buf (Elt F) ℓ) (K : Dev nD × Fin 19 → ℕ) (c : Dev nD)

/-- A program of the body. -/
abbrev Piece (F : FTy → Type) [FloatOps F] : Type 1 := Prog (TpuEff nD τ sig (Elt F) Λ₀ .tc) PUnit.{1}

/-! ## From one holding to another -/

/-- Under the shared records and the levels, `p` takes device `c` from `P` to `P'`. -/
def triple (P : sProp 𝕄) (p : Piece F) (P' : sProp 𝕄) : Prop :=
  ∀ Q : PUnit.{1} → sProp 𝕄, iprop(records m K ∗ levAts L lv ∗ P ∗ (P' -∗ Q ⟨⟩)) ⊢ runs c p Q

section Rules
variable {m K c}

theorem triple.seq {P P' P'' : sProp 𝕄} {p q : Piece F} (h₁ : triple m K c P p P') (h₂ : triple m K c P' q P'') :
    triple m K c P (p >>= fun _ => q) P'' := by
  intro Q
  unfold runs
  rw [wp_bind]
  iintro ⟨#HR, #HL, HP, HQ⟩
  iapply (h₁ fun _ => runs c q Q)
  isplitr; · iexact HR
  isplitr; · iexact HL
  isplitl [HP]; · iexact HP
  iintro HP'
  iapply (h₂ Q)
  isplitr; · iexact HR
  isplitr; · iexact HL
  isplitl [HP'] <;> iassumption

theorem triple.frame {P P' : sProp 𝕄} {p : Piece F} (R : sProp 𝕄) (h : triple m K c P p P') : triple m K c iprop(P ∗ R) p iprop(P' ∗ R) := by
  intro Q
  iintro ⟨#HR, #HL, ⟨HP, Hf⟩, HQ⟩
  iapply (h Q)
  isplitr; · iexact HR
  isplitr; · iexact HL
  isplitl [HP]; · iexact HP
  iintro HP'
  iapply HQ
  isplitl [HP'] <;> iassumption

theorem triple.post {P P' P'' : sProp 𝕄} {p : Piece F} (h : triple m K c P p P') (hP : P' ⊢ P'') : triple m K c P p P'' := by
  intro Q
  iintro ⟨#HR, #HL, HP, HQ⟩
  iapply (h Q)
  isplitr; · iexact HR
  isplitr; · iexact HL
  isplitl [HP]; · iexact HP
  iintro HP'
  iapply HQ
  iapply hP
  iexact HP'

/-- What a piece starts from may be prepared under the records, with ghost steps. -/
theorem triple.pre {P P₁ P' : sProp 𝕄} {p : Piece F} (h : triple m K c P₁ p P') (hP : iprop(records m K ∗ P) ⊢ iprop(|={Set.univ}=> P₁)) :
    triple m K c P p P' := by
  intro Q
  iintro ⟨#HR, #HL, HP, HQ⟩
  imod hP $$ [HP] with HP
  · isplitr; · iexact HR
    iexact HP
  iapply (h Q)
  isplitr; · iexact HR
  isplitr; · iexact HL
  isplitl [HP] <;> iassumption

theorem triple.pre' {P P₁ P' : sProp 𝕄} {p : Piece F} (h : triple m K c P₁ p P') (hP : P ⊢ P₁) : triple m K c P p P' :=
  h.pre (sep_elim_right.trans (hP.trans (fupd_intro (E := Set.univ))))

end Rules

/-! ## The holdings -/

/-- A slot ready for chunk number `n`, and a slot whose copy is under way. -/
def free (n : ℕ) : sProp 𝕄 :=
  iprop((∃ f, bPts c (par n) f) ∗ atPos ER (loadCell c (par n)) (n / 2) ∅ 0 ∗ reached ER (loadCell c (par n)) (n / 2))
def issued (n : ℕ) : sProp 𝕄 := iprop(cred (tallyAt (loadCell c (par n)) () N₁) ∗ atPos ER (loadCell c (par n)) (n / 2) ∅ 0)
def lane (n : ℕ) : sProp 𝕄 := if n < 8 then issued c n else free c n

/-- What chunk `k`'s copy still needs; its fill and send; what a filled chunk holds, and a sent one. -/
def waiting (k : Fin 8) : sProp 𝕄 := iprop(dutyTok ER (loadCell c k) (k.val / 2) () ∗ aPts c k (argC m c))
def todo (k : Fin 8) : sProp 𝕄 :=
  iprop((∃ f, sPts c k f) ∗ (∃ f, lPts c k f) ∗ (∃ f, rPts (peer c) k f) ∗ dutyTok ER (sendCell c k) 0 () ∗ dutyTok ER (recvCell (peer c) k) 0 ())
def filled (k : Fin 8) : sProp 𝕄 :=
  iprop(sPts c k (sendC m c) ∗ lPts c k (localC m c) ∗ aPts c k (argC m c) ∗ (∃ f, rPts (peer c) k f) ∗ dutyTok ER (sendCell c k) 0 () ∗ dutyTok ER (recvCell (peer c) k) 0 ())
def sent (k : Fin 8) : sProp 𝕄 := iprop(cred (tallyAt (sendCell c k) () N) ∗ lPts c k (localC m c) ∗ aPts c k (argC m c))

/-- Before the arrival of chunk `k` and after it. -/
def coming (k : Fin 8) : sProp 𝕄 :=
  iprop(cred (tallyAt (recvCell c k) () N) ∗ atPos ER (recvCell c k) 0 ∅ 0 ∗ lPts c k (localC m c) ∗ (∃ f, oPts c k f))
def come (k : Fin 8) : sProp 𝕄 := iprop(semVal (recvCell c k) 0 ∗ lPts c k (localC m c) ∗ rPts c k (recvC m c) ∗ oPts c k (outC m c))
/-- Before the departure of chunk `k` and after it. -/
def going (k : Fin 8) : sProp 𝕄 := iprop(cred (tallyAt (sendCell c k) () N) ∗ atPos ER (sendCell c k) 0 ∅ 0)
def gone (k : Fin 8) : sProp 𝕄 := iprop(semVal (sendCell c k) 0 ∗ sPts c k (sendC m c))

/-- After `n` turns. -/
def atTurn (n : ℕ) : sProp 𝕄 :=
  iprop(due c (owed c (8 - n)) ∗ lane c n ∗ lane c (n + 1) ∗ bigSep (rangeSet 8 n 8) (fun k => todo c k) ∗ bigSep (rangeSet 8 (n + 2) 8) (fun k => waiting m c k)
    ∗ bigSep (rangeSet 8 0 n) (fun k => sent m c k))
/-- After `n` arrivals, and after `n` departures. -/
def atCollect (n : ℕ) : sProp 𝕄 :=
  iprop(due c 0 ∗ bigSep (rangeSet 8 n 8) (fun k => coming m c k) ∗ bigSep (rangeSet 8 0 n) (fun k => come m c k))
def atDrain (n : ℕ) : sProp 𝕄 :=
  iprop(due c 0 ∗ bigSep (rangeSet 8 n 8) (fun k => going c k) ∗ bigSep (rangeSet 8 0 n) (fun k => gone m c k))

/-! ## Runs of chunks -/

theorem range_head {Φ : Fin 8 → sProp 𝕄} (n : ℕ) (h : n < 8) : bigSep (rangeSet 8 n 8) Φ = iprop(Φ ⟨n, h⟩ ∗ bigSep (rangeSet 8 (n + 1) 8) Φ) :=
  bigSep_rangeSet_head h h
theorem range_last {Φ : Fin 8 → sProp 𝕄} (n : ℕ) (h : n < 8) : bigSep (rangeSet 8 0 (n + 1)) Φ = iprop(Φ ⟨n, h⟩ ∗ bigSep (rangeSet 8 0 n) Φ) :=
  bigSep_rangeSet_last (Nat.succ_pos n) h
theorem range_none {Φ : Fin 8 → sProp 𝕄} (n : ℕ) (h : 8 ≤ n) : bigSep (rangeSet 8 n 8) Φ = (iprop(emp) : sProp 𝕄) :=
  bigSep_rangeSet_empty h
theorem range_zero {Φ : Fin 8 → sProp 𝕄} : bigSep (rangeSet 8 0 0) Φ = (iprop(emp) : sProp 𝕄) := bigSep_rangeSet_empty (Nat.le_refl 0)
theorem range_all {Φ : Fin 8 → sProp 𝕄} : bigSep (rangeSet 8 0 8) Φ = bigSep Finset.univ Φ := by rw [rangeSet_univ]

/-! ## The steps -/

section Steps
variable {m K c}

theorem issue_step (n : ℕ) (h : n < 8) :
    triple m K c iprop(free c n ∗ bigSep (rangeSet 8 n 8) (fun k => waiting m c k)) (issue ⟨n, h⟩)
      iprop(issued c n ∗ bigSep (rangeSet 8 (n + 1) 8) (fun k => waiting m c k)) := by
  intro Q
  rw [range_head n h]
  unfold free issued waiting
  rw [← loadCell_par c n h]
  iintro ⟨#HR, #HL, ⟨⟨Hb, Hat, Hr⟩, ⟨Ht, Ha⟩, Hw⟩, HQ⟩
  iapply (issue_rule m K c ⟨n, h⟩) $$ [Hb Hr Ht Ha]
  · isplitr; · iexact HR
    isplitl [Hb]; · icases Hb with ⟨%f, Hb⟩; iexists f; iapply (Entails.of_eq (bPts_par c n h f).symm); iexact Hb
    isplitl [Ha]; · iexact Ha
    isplitl [Ht]; · iexact Ht
    iexact Hr
  iintro Hc
  iapply HQ
  isplitl [Hc Hat]
  · isplitl [Hc] <;> iassumption
  iexact Hw

theorem fill_step (n : ℕ) (h : n < 8) (op oo : Fin 3 → ℕ) (hp : ∀ a, op a + S1x256x512.size a ≤ S2x256x1024.size a)
    (ho : ∀ a, oo a + S1x256x512.size a ≤ S2x256x1024.size a)
    (hop : op = ![n % 2, 0, 512 - 512 * (c.val / 16)]) (hoo : oo = ![n % 2, 0, 512 * (c.val / 16)]) :
    triple m K c iprop(due c (owed c (8 - n)) ∗ issued c n ∗ todo c ⟨n, h⟩) (fill ⟨n, h⟩ op oo hp ho)
      iprop(due c (owed c (8 - n)) ∗ free c (n + 2) ∗ filled m c ⟨n, h⟩) := by
  intro Q
  unfold issued free todo filled
  rw [par_add, ← loadCell_par c n h]
  iintro ⟨#HR, #HL, ⟨Ho, ⟨Hc, Hat⟩, Hs, Hl, Hr, Ht, Ht'⟩, HQ⟩
  iapply (fill_rule m K c ⟨n, h⟩ op oo hp ho hop hoo (8 - n)) $$ [Ho Hc Hat Hs Hl]
  · isplitr; · iexact HR
    isplitr; · iexact HL
    isplitl [Hc]; · iexact Hc
    isplitl [Ho]; · iexact Ho
    isplitl [Hat]; · iexact Hat
    isplitl [Hs] <;> iassumption
  iintro ⟨Ho, Hat, Hr', ⟨%f, Hb⟩, Ha, Hs, Hl⟩
  iapply HQ
  isplitl [Ho]; · iexact Ho
  isplitl [Hat Hr' Hb]
  · isplitl [Hb]; · iexists f; iapply (Entails.of_eq (bPts_par c n h f)); iexact Hb
    rw [show (n + 2) / 2 = n / 2 + 1 from by omega]
    isplitl [Hat] <;> iassumption
  isplitl [Hs]; · iexact Hs
  isplitl [Hl]; · iexact Hl
  isplitl [Ha]; · iexact Ha
  isplitl [Hr]; · iexact Hr
  isplitl [Ht] <;> iassumption

theorem send_step (n : ℕ) (h : n < 8) (d : Dev nD) (hd : d = peer c) :
    triple m K c iprop(due c (owed c (8 - n)) ∗ filled m c ⟨n, h⟩) (send ⟨n, h⟩ d) iprop(due c (owed c (8 - (n + 1))) ∗ sent m c ⟨n, h⟩) := by
  intro Q
  unfold filled sent
  iintro ⟨#HR, #HL, ⟨Ho, Hs, Hl, Ha, Hr, Ht, Ht'⟩, HQ⟩
  iapply (send_rule m K c ⟨n, h⟩ d hd) $$ [Ho Hs Hr Ht Ht']
  · isplitr; · iexact HR
    isplitl [Ho]; · iexact Ho
    isplitl [Hs]; · iexact Hs
    isplitl [Hr]; · iexact Hr
    isplitl [Ht] <;> iassumption
  iintro ⟨Ho, Hc⟩
  iapply HQ
  rw [show 8 - (n + 1) = 7 - n from by omega]
  isplitl [Ho]; · iexact Ho
  isplitl [Hc]; · iexact Hc
  isplitl [Hl] <;> iassumption

/-- A fill and a send of chunk `n`, before the next copy is started. -/
theorem last_step' (n : ℕ) (h : n < 8) (op oo : Fin 3 → ℕ) (hp : ∀ a, op a + S1x256x512.size a ≤ S2x256x1024.size a)
    (ho : ∀ a, oo a + S1x256x512.size a ≤ S2x256x1024.size a)
    (hop : op = ![n % 2, 0, 512 - 512 * (c.val / 16)]) (hoo : oo = ![n % 2, 0, 512 * (c.val / 16)]) (d : Dev nD) (hd : d = peer c) (R : sProp 𝕄) :
    triple m K c iprop((due c (owed c (8 - n)) ∗ issued c n ∗ todo c ⟨n, h⟩) ∗ R) (last ⟨n, h⟩ (fill ⟨n, h⟩ op oo hp ho) d)
      iprop((due c (owed c (8 - (n + 1))) ∗ sent m c ⟨n, h⟩) ∗ (free c (n + 2) ∗ R)) :=
  ((fill_step n h op oo hp ho hop hoo).frame R).seq
    (((send_step n h d hd).frame iprop(free c (n + 2) ∗ R)).pre' (by
      iintro ⟨⟨H1, H2, H3⟩, H4⟩
      isplitl [H1 H3]
      · isplitl [H1] <;> iassumption
      isplitl [H2] <;> iassumption))

/-- One turn with a copy to start. -/
theorem turn_step (n : ℕ) (h : n + 2 < 8) (op oo : Fin 3 → ℕ) (hp : ∀ a, op a + S1x256x512.size a ≤ S2x256x1024.size a)
    (ho : ∀ a, oo a + S1x256x512.size a ≤ S2x256x1024.size a)
    (hop : op = ![n % 2, 0, 512 - 512 * (c.val / 16)]) (hoo : oo = ![n % 2, 0, 512 * (c.val / 16)]) (d : Dev nD) (hd : d = peer c) :
    triple m K c (atTurn m c n) (turn ⟨n, by omega⟩ ⟨n + 2, h⟩ (fill ⟨n, by omega⟩ op oo hp ho) d) (atTurn m c (n + 1)) := by
  have hn : n < 8 := by omega
  have e : turn (F := F) ⟨n, hn⟩ ⟨n + 2, h⟩ (fill ⟨n, hn⟩ op oo hp ho) d = (last ⟨n, hn⟩ (fill ⟨n, hn⟩ op oo hp ho) d >>= fun _ => issue ⟨n + 2, h⟩) := by
    unfold turn last; rw [bind_assoc]
  rw [e]
  have h₁ := (last_step' (m := m) (K := K) (c := c) n hn op oo hp ho hop hoo d hd
    iprop(lane c (n + 1) ∗ bigSep (rangeSet 8 (n + 1) 8) (fun k => todo c k) ∗ bigSep (rangeSet 8 (n + 2) 8) (fun k => waiting m c k) ∗ bigSep (rangeSet 8 0 n) (fun k => sent m c k)))
  have h₂ := (issue_step (m := m) (K := K) (c := c) (n + 2) h).frame
    iprop((due c (owed c (8 - (n + 1))) ∗ sent m c ⟨n, hn⟩) ∗ lane c (n + 1) ∗ bigSep (rangeSet 8 (n + 1) 8) (fun k => todo c k) ∗ bigSep (rangeSet 8 0 n) (fun k => sent m c k))
  refine ((h₁.seq (h₂.pre' ?_)).pre' ?_).post ?_
  · iintro ⟨⟨H1, H2⟩, H3, H4, H5, H6, H7⟩
    isplitl [H3 H6]
    · isplitl [H3] <;> iassumption
    isplitl [H1 H2]
    · isplitl [H1] <;> iassumption
    isplitl [H4]; · iexact H4
    isplitl [H5] <;> iassumption
  · unfold atTurn
    rw [range_head n hn, show lane (F := F) c n = issued c n from if_pos hn]
    iintro ⟨H1, H2, H3, ⟨H4, H4'⟩, H5, H6⟩
    isplitl [H1 H2 H4]
    · isplitl [H1]; · iexact H1
      isplitl [H2] <;> iassumption
    isplitl [H3]; · iexact H3
    isplitl [H4']; · iexact H4'
    isplitl [H5] <;> iassumption
  · unfold atTurn
    rw [range_last n hn, show lane (F := F) c (n + 1 + 1) = issued c (n + 2) from if_pos h]
    iintro ⟨⟨H1, H2⟩, ⟨H3, H4⟩, H5, H6, H7⟩
    isplitl [H3]; · iexact H3
    isplitl [H5]; · iexact H5
    isplitl [H1]; · iexact H1
    isplitl [H6]; · iexact H6
    isplitl [H2]; · iexact H2
    isplitl [H4] <;> iassumption

/-- One of the last two turns. -/
theorem last_step (n : ℕ) (h : n < 8) (h' : 8 ≤ n + 2) (op oo : Fin 3 → ℕ) (hp : ∀ a, op a + S1x256x512.size a ≤ S2x256x1024.size a)
    (ho : ∀ a, oo a + S1x256x512.size a ≤ S2x256x1024.size a)
    (hop : op = ![n % 2, 0, 512 - 512 * (c.val / 16)]) (hoo : oo = ![n % 2, 0, 512 * (c.val / 16)]) (d : Dev nD) (hd : d = peer c) :
    triple m K c (atTurn m c n) (last ⟨n, h⟩ (fill ⟨n, h⟩ op oo hp ho) d) (atTurn m c (n + 1)) := by
  have h₁ := (last_step' (m := m) (K := K) (c := c) n h op oo hp ho hop hoo d hd
    iprop(lane c (n + 1) ∗ bigSep (rangeSet 8 (n + 1) 8) (fun k => todo c k) ∗ bigSep (rangeSet 8 0 n) (fun k => sent m c k)))
  refine (h₁.pre' ?_).post ?_
  · unfold atTurn
    rw [range_head n h, range_none (n + 2) h', show lane (F := F) c n = issued c n from if_pos h]
    iintro ⟨H1, H2, H3, ⟨H4, H4'⟩, -, H6⟩
    isplitl [H1 H2 H4]
    · isplitl [H1]; · iexact H1
      isplitl [H2] <;> iassumption
    isplitl [H3]; · iexact H3
    isplitl [H4'] <;> iassumption
  · unfold atTurn
    rw [range_last n h, range_none (n + 1 + 2) (by omega), show lane (F := F) c (n + 1 + 1) = free c (n + 2) from if_neg (by omega)]
    iintro ⟨⟨H1, H2⟩, H3, H4, H5, H6⟩
    isplitl [H1]; · iexact H1
    isplitl [H4]; · iexact H4
    isplitl [H3]; · iexact H3
    isplitl [H5]; · iexact H5
    isplitr; · iempintro
    isplitl [H2] <;> iassumption

theorem collect_step (n : ℕ) (h : n < 8) : triple m K c (atCollect m c n) (collect ⟨n, h⟩) (atCollect m c (n + 1)) := by
  intro Q
  unfold atCollect
  rw [range_head n h, range_last n h]
  unfold coming come
  iintro ⟨#HR, #HL, ⟨Ho, ⟨⟨Hc, Hat, Hl, Hout⟩, H1⟩, H2⟩, HQ⟩
  iapply (collect_rule m K c ⟨n, h⟩) $$ [Ho Hc Hat Hl Hout]
  · isplitr; · iexact HR
    isplitl [Ho]; · iexact Ho
    isplitl [Hc]; · iexact Hc
    isplitl [Hat]; · iexact Hat
    isplitl [Hl] <;> iassumption
  iintro ⟨Ho, H⟩
  iapply HQ
  isplitl [Ho]; · iexact Ho
  isplitl [H1]; · iexact H1
  isplitl [H] <;> iassumption

theorem drain_step (n : ℕ) (h : n < 8) : triple m K c (atDrain m c n) (drain ⟨n, h⟩) (atDrain m c (n + 1)) := by
  intro Q
  unfold atDrain
  rw [range_head n h, range_last n h]
  unfold going gone
  iintro ⟨#HR, #HL, ⟨Ho, ⟨⟨Hc, Hat⟩, H1⟩, H2⟩, HQ⟩
  iapply (drain_rule m K c ⟨n, h⟩) $$ [Ho Hc Hat]
  · isplitr; · iexact HR
    isplitl [Ho]; · iexact Ho
    isplitl [Hc] <;> iassumption
  iintro ⟨Ho, H⟩
  iapply HQ
  isplitl [Ho]; · iexact Ho
  isplitl [H1]; · iexact H1
  isplitl [H] <;> iassumption

/-- The two first copies. -/
theorem first_steps {p : Piece F} {P : sProp 𝕄} (hp : triple m K c (atTurn m c 0) p P) :
    triple m K c iprop(due c (owed c 8) ∗ free c 0 ∗ free c 1 ∗ bigSep Finset.univ (fun k => todo c k) ∗ bigSep Finset.univ (fun k => waiting m c k))
      (issue ⟨0, by decide⟩ >>= fun _ => issue ⟨1, by decide⟩ >>= fun _ => p) P := by
  rw [← range_all, ← range_all]
  have h₁ := (issue_step (m := m) (K := K) (c := c) 0 (by decide)).frame iprop(free c 1 ∗ due c (owed c 8) ∗ bigSep (rangeSet 8 0 8) (fun k => todo c k))
  have h₂ := (issue_step (m := m) (K := K) (c := c) 1 (by decide)).frame iprop(issued c 0 ∗ due c (owed c 8) ∗ bigSep (rangeSet 8 0 8) (fun k => todo c k))
  refine (h₁.seq ((h₂.pre' ?_).seq (hp.pre' ?_))).pre' ?_
  · iintro ⟨⟨H1, H2⟩, H3, H4⟩
    isplitl [H2 H3]
    · isplitl [H3] <;> iassumption
    isplitl [H1] <;> iassumption
  · unfold atTurn
    rw [range_zero, show lane (F := F) c 0 = issued c 0 from rfl, show lane (F := F) c (0 + 1) = issued c 1 from rfl]
    iintro ⟨⟨H1, H2⟩, H3, H4, H5⟩
    isplitl [H4]; · iexact H4
    isplitl [H3]; · iexact H3
    isplitl [H1]; · iexact H1
    isplitl [H5]; · iexact H5
    isplitl [H2]; · iexact H2
    iempintro
  · iintro ⟨H1, H2, H3, H4, H5⟩
    isplitl [H2 H5]
    · isplitl [H2] <;> iassumption
    isplitl [H3]; · iexact H3
    isplitl [H1] <;> iassumption

end Steps

/-! ## The body's four parts -/

/-- All eight turns. -/
theorem turns_triple :
    triple m K c iprop(due c (owed c 8) ∗ free c 0 ∗ free c 1 ∗ bigSep Finset.univ (fun k => todo c k) ∗ bigSep Finset.univ (fun k => waiting m c k))
      (turns c) (atTurn m c 8) := by
  unfold turns fillE fillO
  exact first_steps <|
    (turn_step 0 (by decide) _ _ _ _ (k0_off1_eq c) (k0_off2_eq c) _ (dev2_eq c)).seq <|
    (turn_step 1 (by decide) _ _ _ _ (k0_off3_eq c) (k0_off4_eq c) _ (dev3_eq c)).seq <|
    (turn_step 2 (by decide) _ _ _ _ (k0_off1_eq c) (k0_off2_eq c) _ (dev4_eq c)).seq <|
    (turn_step 3 (by decide) _ _ _ _ (k0_off3_eq c) (k0_off4_eq c) _ (dev5_eq c)).seq <|
    (turn_step 4 (by decide) _ _ _ _ (k0_off1_eq c) (k0_off2_eq c) _ (dev6_eq c)).seq <|
    (turn_step 5 (by decide) _ _ _ _ (k0_off3_eq c) (k0_off4_eq c) _ (dev7_eq c)).seq <|
    (last_step 6 (by decide) (by decide) _ _ _ _ (k0_off1_eq c) (k0_off2_eq c) _ (dev8_eq c)).seq <|
    last_step 7 (by decide) (by decide) _ _ _ _ (k0_off3_eq c) (k0_off4_eq c) _ (dev9_eq c)

/-- All eight arrivals. -/
theorem collects_triple : triple m K c (atCollect m c 0) collects (atCollect m c 8) :=
  (collect_step 0 (by decide)).seq <| (collect_step 1 (by decide)).seq <| (collect_step 2 (by decide)).seq <| (collect_step 3 (by decide)).seq <|
    (collect_step 4 (by decide)).seq <| (collect_step 5 (by decide)).seq <| (collect_step 6 (by decide)).seq <| collect_step 7 (by decide)

/-- All eight departures. -/
theorem drains_triple : triple m K c (atDrain m c 0) drains (atDrain m c 8) :=
  (drain_step 0 (by decide)).seq <| (drain_step 1 (by decide)).seq <| (drain_step 2 (by decide)).seq <| (drain_step 3 (by decide)).seq <|
    (drain_step 4 (by decide)).seq <| (drain_step 5 (by decide)).seq <| (drain_step 6 (by decide)).seq <| drain_step 7 (by decide)

end Cert.KernelIdeal.Rs

end
-- ==== Proof.KernelIdeal.Body.lean ====
/-
# The whole body

A buffer is its eight row chunks (the two-slot buffer its two slots), so the holdings of the turns are the launch's
whole buffers. With that the four parts of the body chain to one statement about `pieces`, hence about the printed
body.
-/
module

public import proofs.«01_k».proof.Proof.KernelIdeal.Turns

@[expose] public section

set_option maxRecDepth 16384

noncomputable section

namespace Cert.KernelIdeal.Rs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 19 → ℕ) (c : Dev nD)

/-! ## Whole buffers and their parts -/

/-- A buffer held whole is its parts, where the parts are disjoint and every element lies in one. -/
theorem whole_parts {T : Type} [Fintype T] {ℓ : Loc nD τ sig} (P : T → Finset (Idx ℓ)) (hdis : ∀ t t', t ≠ t' → Disjoint (P t) (P t'))
    (hcov : ∀ i, ∃ t, i ∈ P t) (f : Buf (Elt F) ℓ) :
    (ℓ ↦{fullShare} f : sProp 𝕄) = bigSep Finset.univ fun t => ℓ ↦[P t]{fullShare} f := by
  classical
  rw [← pointsTo_biUnion Finset.univ P fun t _ t' _ h => hdis t t' h]
  congr 1
  refine (Finset.eq_univ_iff_forall.2 fun i => ?_).symm
  obtain ⟨t, ht⟩ := hcov i
  exact Finset.mem_biUnion.2 ⟨t, Finset.mem_univ _, ht⟩

theorem mem_rows (k : Fin 8) (i : S2048x512.Idx) : i ∈ (rowsR k).set ↔ 256 * k.val ≤ (i 0).val ∧ (i 0).val < 256 * k.val + 256 := by
  rw [Rect.mem_set_unit]
  refine ⟨fun h => h 0, fun h a => ?_⟩
  have h1 : (i 1).val < 512 := (i 1).isLt
  match a with
  | 0 => exact h
  | 1 => exact ⟨Nat.zero_le _, by show (i 1).val < 0 + 512; omega⟩
theorem mem_chunk (k : Fin 8) (i : S1x2048x1024.Idx) : i ∈ (chunkR k).set ↔ 256 * k.val ≤ (i 1).val ∧ (i 1).val < 256 * k.val + 256 := by
  rw [Rect.mem_set_unit]
  refine ⟨fun h => h 1, fun h a => ?_⟩
  have h0 : (i 0).val < 1 := (i 0).isLt
  have h2 : (i 2).val < 1024 := (i 2).isLt
  match a with
  | 0 => exact ⟨Nat.zero_le _, by show (i 0).val < 0 + 1; omega⟩
  | 1 => exact h
  | 2 => exact ⟨Nat.zero_le _, by show (i 2).val < 0 + 1024; omega⟩
theorem mem_slot (n : ℕ) (i : S2x256x1024.Idx) : i ∈ (slotR (par n)).set ↔ (i 0).val = n % 2 := by
  rw [Rect.mem_set_unit]
  have h1 : (i 1).val < 256 := (i 1).isLt
  have h2 : (i 2).val < 1024 := (i 2).isLt
  have e : (par n).val % 2 = n % 2 := by show n % 2 % 2 = n % 2; omega
  refine ⟨fun h => ?_, fun h a => ?_⟩
  · have h0 : (par n).val % 2 ≤ (i 0).val ∧ (i 0).val < (par n).val % 2 + 1 := h 0
    omega
  · match a with
    | 0 => exact show (par n).val % 2 ≤ (i 0).val ∧ (i 0).val < (par n).val % 2 + 1 by omega
    | 1 => exact ⟨Nat.zero_le _, by show (i 1).val < 0 + 256; omega⟩
    | 2 => exact ⟨Nat.zero_le _, by show (i 2).val < 0 + 1024; omega⟩

theorem rows_disjoint (k k' : Fin 8) (h : k ≠ k') : Disjoint (rowsR k).set (rowsR k').set := by
  rw [Finset.disjoint_left]
  intro i hi hi'
  rw [mem_rows] at hi hi'
  exact h (Fin.ext (by omega))
theorem rows_cover (i : S2048x512.Idx) : ∃ k : Fin 8, i ∈ (rowsR k).set := by
  have h : (i 0).val < 2048 := (i 0).isLt
  exact ⟨⟨(i 0).val / 256, by omega⟩, by rw [mem_rows]; dsimp only; omega⟩

/-- A buffer of the result's shape is its eight row chunks, -/
theorem s_parts (f : S2048x512.Idx → Elt F .bf16) :
    (((c : Thread nD τ).loc cc0_scratch1) ↦{fullShare} f : sProp 𝕄) = bigSep Finset.univ fun k => sPts c k f :=
  whole_parts (ℓ := (c : Thread nD τ).loc cc0_scratch1) (fun k => (rowsR k).set) rows_disjoint rows_cover f
theorem l_parts (f : S2048x512.Idx → Elt F .bf16) :
    (((c : Thread nD τ).loc cc0_scratch2) ↦{fullShare} f : sProp 𝕄) = bigSep Finset.univ fun k => lPts c k f :=
  whole_parts (ℓ := (c : Thread nD τ).loc cc0_scratch2) (fun k => (rowsR k).set) rows_disjoint rows_cover f
theorem r_parts (f : S2048x512.Idx → Elt F .bf16) :
    (((c : Thread nD τ).loc cc0_scratch3) ↦{fullShare} f : sProp 𝕄) = bigSep Finset.univ fun k => rPts c k f :=
  whole_parts (ℓ := (c : Thread nD τ).loc cc0_scratch3) (fun k => (rowsR k).set) rows_disjoint rows_cover f
theorem o_parts (f : S2048x512.Idx → Elt F .bf16) :
    (((c : Thread nD τ).loc cc0_stg0_0) ↦{fullShare} f : sProp 𝕄) = bigSep Finset.univ fun k => oPts c k f :=
  whole_parts (ℓ := (c : Thread nD τ).loc cc0_stg0_0) (fun k => (rowsR k).set) rows_disjoint rows_cover f
/-- the argument its eight chunks, -/
theorem a_parts (f : S1x2048x1024.Idx → Elt F .f32) :
    (((c : Thread nD τ).loc main_arg0) ↦{fullShare} f : sProp 𝕄) = bigSep Finset.univ fun k => aPts c k f := by
  refine whole_parts (ℓ := (c : Thread nD τ).loc main_arg0) (fun k => (chunkR k).set) (fun k k' h => ?_) (fun i => ?_) f
  · rw [Finset.disjoint_left]
    intro i hi hi'
    rw [mem_chunk] at hi hi'
    exact h (Fin.ext (by omega))
  · have h : (i 1).val < 2048 := (i 1).isLt
    exact ⟨⟨(i 1).val / 256, by omega⟩, (mem_chunk _ _).2 (by dsimp only; omega)⟩

theorem slots_disjoint : Disjoint (slotR (par 0)).set (slotR (par 1)).set := by
  rw [Finset.disjoint_left]
  intro i hi hi'
  rw [mem_slot] at hi hi'
  omega
theorem slots_cover : (slotR (par 0)).set ∪ (slotR (par 1)).set = Finset.univ := by
  refine Finset.eq_univ_iff_forall.2 fun i => ?_
  have h : (i 0).val < 2 := (i 0).isLt
  rw [Finset.mem_union, mem_slot, mem_slot]
  omega

/-- A buffer held whole, whatever it holds. -/
def bAny : sProp 𝕄 := iprop(∃ f : Buf (Elt F) ((c : Thread nD τ).loc cc0_scratch0), ((c : Thread nD τ).loc cc0_scratch0) ↦{fullShare} f)
def sAny : sProp 𝕄 := iprop(∃ f : Buf (Elt F) ((c : Thread nD τ).loc cc0_scratch1), ((c : Thread nD τ).loc cc0_scratch1) ↦{fullShare} f)
def lAny : sProp 𝕄 := iprop(∃ f : Buf (Elt F) ((c : Thread nD τ).loc cc0_scratch2), ((c : Thread nD τ).loc cc0_scratch2) ↦{fullShare} f)
def oAny : sProp 𝕄 := iprop(∃ f : Buf (Elt F) ((c : Thread nD τ).loc cc0_stg0_0), ((c : Thread nD τ).loc cc0_stg0_0) ↦{fullShare} f)

/-- The two-slot buffer is its two slots, at any contents. -/
theorem b_split : bAny (F := F) c ⊢ iprop((∃ f, bPts c (par 0) f) ∗ (∃ f, bPts c (par 1) f)) := by
  unfold bAny bPts
  rw [← slots_cover]
  iintro ⟨%f, H⟩
  ihave H := (pointsTo_union slots_disjoint).1 $$ H
  icases H with ⟨H0, H1⟩
  isplitl [H0]
  · iexists f; iexact H0
  · iexists f; iexact H1
theorem b_join : iprop((∃ f, bPts c (par 0) f) ∗ (∃ f, bPts c (par 1) f)) ⊢ bAny (F := F) c := by
  unfold bAny bPts
  rw [← slots_cover]
  iintro ⟨⟨%f, H0⟩, ⟨%g, H1⟩⟩
  iexists _
  iapply (pointsTo_join slots_disjoint)
  isplitl [H0] <;> iassumption

/-- Chunks at one contents are chunks at some contents. -/
theorem some_each {Φ : Fin 8 → (S2048x512.Idx → Elt F .bf16) → sProp 𝕄} (f : S2048x512.Idx → Elt F .bf16) :
    bigSep Finset.univ (fun k => Φ k f) ⊢ bigSep Finset.univ (fun k => iprop(∃ g, Φ k g)) :=
  bigSep_mono fun k _ => show Φ k f ⊢ iprop(∃ g, Φ k g) from by iintro H; iexists f; iexact H

theorem s_split : sAny (F := F) c ⊢ bigSep Finset.univ (fun k => iprop(∃ f, sPts c k f)) := by
  unfold sAny; iintro ⟨%f, H⟩; ihave H := (Entails.of_eq (s_parts c f)) $$ H; iapply (some_each (Φ := fun k f => sPts c k f) f); iexact H
theorem l_split : lAny (F := F) c ⊢ bigSep Finset.univ (fun k => iprop(∃ f, lPts c k f)) := by
  unfold lAny; iintro ⟨%f, H⟩; ihave H := (Entails.of_eq (l_parts c f)) $$ H; iapply (some_each (Φ := fun k f => lPts c k f) f); iexact H
theorem r_split : rAny (F := F) c ⊢ bigSep Finset.univ (fun k => iprop(∃ f, rPts c k f)) := by
  unfold rAny; iintro ⟨%f, H⟩; ihave H := (Entails.of_eq (r_parts c f)) $$ H; iapply (some_each (Φ := fun k f => rPts c k f) f); iexact H
theorem o_split : oAny (F := F) c ⊢ bigSep Finset.univ (fun k => iprop(∃ f, oPts c k f)) := by
  unfold oAny; iintro ⟨%f, H⟩; ihave H := (Entails.of_eq (o_parts c f)) $$ H; iapply (some_each (Φ := fun k f => oPts c k f) f); iexact H

/-! ## What the body starts from and ends with -/

/-- The positions and the duty tokens of device `c`: the duties it pays are its own copies and sends, its peer's
    barrier and its peer's arrivals. -/
def linear : sProp 𝕄 :=
  iprop((atPos ER (barCell c) 0 ∅ 0 ∗ (atPos ER (loadCell c (par 0)) 0 ∅ 0 ∗ atPos ER (loadCell c (par 1)) 0 ∅ 0)
      ∗ bigSep Finset.univ (fun k : Fin 8 => atPos ER (sendCell c k) 0 ∅ 0) ∗ bigSep Finset.univ (fun k : Fin 8 => atPos ER (recvCell c k) 0 ∅ 0))
    ∗ dutyTok ER (barCell (peer c)) 0 () ∗ bigSep Finset.univ (fun k : Fin 8 => dutyTok ER (loadCell c k) (k.val / 2) ())
    ∗ bigSep Finset.univ (fun k : Fin 8 => dutyTok ER (sendCell c k) 0 ()) ∗ bigSep Finset.univ (fun k : Fin 8 => dutyTok ER (recvCell (peer c) k) 0 ()))

def argHeld : sProp 𝕄 := ((c : Thread nD τ).loc main_arg0) ↦{fullShare} argC m c
def outHeld : sProp 𝕄 := ((c : Thread nD τ).loc cc0_stg0_0) ↦{fullShare} outC m c

def bodyIn : sProp 𝕄 :=
  iprop(due c (O₀ c) ∗ (cred (tallyAt (barCell c) () 1) ∗ bigSep Finset.univ (fun k : Fin 8 => cred (tallyAt (recvCell c k) () N))) ∗ linear c
    ∗ (bAny c ∗ sAny c ∗ lAny c ∗ rAny c) ∗ oAny c ∗ argHeld m c)
def bodyOut : sProp 𝕄 :=
  iprop(due c 0 ∗ (semVal (barCell c) 0 ∗ (semVal (loadCell c (par 0)) 0 ∗ semVal (loadCell c (par 1)) 0)
      ∗ bigSep Finset.univ (fun k : Fin 8 => semVal (sendCell c k) 0) ∗ bigSep Finset.univ (fun k : Fin 8 => semVal (recvCell c k) 0))
    ∗ (bAny c ∗ sAny c ∗ lAny c ∗ rAny c) ∗ outHeld m c ∗ argHeld m c)

theorem body_triple {q : Piece F} (hq : q = greet (peer c) >>= fun _ => turns c >>= fun _ => collects >>= fun _ => drains) :
    triple m K c (bodyIn m c) q (bodyOut m c) := by
  subst hq
  -- what each part leaves alone
  have h₁ : triple m K c iprop((due c (O₀ c) ∗ cred (tallyAt (barCell c) () 1) ∗ atPos ER (barCell c) 0 ∅ 0 ∗ dutyTok ER (barCell (peer c)) 0 () ∗ rAny c)
        ∗ bigSep Finset.univ (fun k : Fin 8 => cred (tallyAt (recvCell c k) () N))
        ∗ (atPos ER (loadCell c (par 0)) 0 ∅ 0 ∗ atPos ER (loadCell c (par 1)) 0 ∅ 0)
        ∗ bigSep Finset.univ (fun k : Fin 8 => atPos ER (sendCell c k) 0 ∅ 0) ∗ bigSep Finset.univ (fun k : Fin 8 => atPos ER (recvCell c k) 0 ∅ 0)
        ∗ bigSep Finset.univ (fun k : Fin 8 => dutyTok ER (loadCell c k) (k.val / 2) ())
        ∗ bigSep Finset.univ (fun k : Fin 8 => dutyTok ER (sendCell c k) 0 ()) ∗ bigSep Finset.univ (fun k : Fin 8 => dutyTok ER (recvCell (peer c) k) 0 ())
        ∗ (bAny c ∗ sAny c ∗ lAny c) ∗ oAny c ∗ argHeld m c)
      (greet (peer c))
      iprop((due c (owed c 8) ∗ semVal (barCell c) 0 ∗ rAny (peer c)) ∗ _) :=
    triple.frame _ fun Q => by
      iintro ⟨#HR, #HL, ⟨H1, H2, H3, H4, H5⟩, HQ⟩
      iapply (greet_rule m K c (peer c) rfl) $$ [H1 H2 H3 H4 H5]
      · isplitr; · iexact HR
        isplitr; · iexact HL
        isplitl [H1]; · iexact H1
        isplitl [H2]; · iexact H2
        isplitl [H3]; · iexact H3
        isplitl [H4] <;> iassumption
      iexact HQ
  have h₂ := (turns_triple m K c).frame
    iprop(semVal (barCell c) 0 ∗ bigSep Finset.univ (fun k : Fin 8 => cred (tallyAt (recvCell c k) () N))
      ∗ bigSep Finset.univ (fun k : Fin 8 => atPos ER (sendCell c k) 0 ∅ 0) ∗ bigSep Finset.univ (fun k : Fin 8 => atPos ER (recvCell c k) 0 ∅ 0) ∗ oAny c)
  have h₃ := (collects_triple m K c).frame
    iprop(semVal (barCell c) 0 ∗ (semVal (loadCell c (par 0)) 0 ∗ semVal (loadCell c (par 1)) 0) ∗ bAny c ∗ argHeld m c
      ∗ bigSep Finset.univ (fun k : Fin 8 => cred (tallyAt (sendCell c k) () N)) ∗ bigSep Finset.univ (fun k : Fin 8 => atPos ER (sendCell c k) 0 ∅ 0))
  have h₄ := (drains_triple m K c).frame
    iprop(semVal (barCell c) 0 ∗ (semVal (loadCell c (par 0)) 0 ∗ semVal (loadCell c (par 1)) 0) ∗ bAny c ∗ argHeld m c
      ∗ bigSep Finset.univ (fun k : Fin 8 => come m c k))
  refine (h₁.seq ((h₂.pre ?_).seq ((h₃.pre ?_).seq (h₄.pre' ?_)))).pre' ?_ |>.post ?_
  · -- into the turns
    iintro ⟨#HR, ⟨Hdue, Hz, Hrp⟩, Hcr, ⟨Hl0, Hl1⟩, Hps, Hpr, Htl, Hts, Htr, ⟨Hb, Hs, Hl⟩, Ho, Ha⟩
    imodintro
    ihave Hb := (b_split c) $$ Hb
    icases Hb with ⟨Hb0, Hb1⟩
    isplitr [Hz Hcr Hps Hpr Ho]
    · isplitl [Hdue]; · iexact Hdue
      isplitl [Hb0 Hl0]
      · unfold free
        isplitl [Hb0]; · iexact Hb0
        isplitl [Hl0]; · iexact Hl0
        iapply (reached_load m K c (par 0)); iexact HR
      isplitl [Hb1 Hl1]
      · unfold free
        isplitl [Hb1]; · iexact Hb1
        isplitl [Hl1]; · iexact Hl1
        iapply (reached_load m K c (par 1)); iexact HR
      isplitl [Hs Hl Hrp Hts Htr]
      · unfold todo
        simp only [bigSep_sep']
        isplitl [Hs]; · iapply (s_split c); iexact Hs
        isplitl [Hl]; · iapply (l_split c); iexact Hl
        isplitl [Hrp]; · iapply (r_split (peer c)); iexact Hrp
        isplitl [Hts] <;> iassumption
      · unfold waiting argHeld
        ihave Ha := (Entails.of_eq (a_parts c (argC m c))) $$ Ha
        rw [bigSep_sep']
        isplitl [Htl] <;> iassumption
    isplitl [Hz]; · iexact Hz
    isplitl [Hcr]; · iexact Hcr
    isplitl [Hps]; · iexact Hps
    isplitl [Hpr] <;> iassumption
  · -- into the arrivals: the slots' cells have run their four rounds
    unfold atTurn
    rw [show lane (F := F) c 8 = free c 8 from rfl, show lane (F := F) c (8 + 1) = free c 9 from rfl, range_all]
    unfold free sent
    simp only [bigSep_sep']
    iintro ⟨#HR, ⟨Hdue, ⟨Hb0, Hl0, -⟩, ⟨Hb1, Hl1, -⟩, -, -, Hcs, Hl, Ha⟩, Hz, Hcr, Hps, Hpr, Ho⟩
    imod (close_load m K c (par 0)) $$ [Hl0] with Hz0
    · isplitr; · iexact HR
      iexact Hl0
    imod (close_load m K c (par 1)) $$ [Hl1] with Hz1
    · isplitr; · iexact HR
      iexact Hl1
    imodintro
    isplitl [Hdue Hcr Hpr Hl Ho]
    · unfold atCollect coming
      rw [range_all, range_zero]
      simp only [bigSep_sep']
      isplitl [Hdue]; · iexact Hdue
      isplitl [Hcr Hpr Hl Ho]
      · isplitl [Hcr]; · iexact Hcr
        isplitl [Hpr]; · iexact Hpr
        isplitl [Hl]; · iexact Hl
        iapply (o_split c); iexact Ho
      iempintro
    isplitl [Hz]; · iexact Hz
    isplitl [Hz0 Hz1]
    · isplitl [Hz0] <;> iassumption
    isplitl [Hb0 Hb1]
    · iapply (b_join c)
      isplitl [Hb0]; · iexact Hb0
      iexact Hb1
    isplitl [Ha]
    · unfold argHeld; rw [a_parts]; iexact Ha
    isplitl [Hcs] <;> iassumption
  · -- into the departures
    unfold atCollect
    rw [range_all]
    iintro ⟨⟨Hdue, -, Hc⟩, Hz, Hzl, Hb, Ha, Hcs, Hps⟩
    isplitl [Hdue Hcs Hps]
    · unfold atDrain going
      rw [range_all, range_zero, bigSep_sep']
      isplitl [Hdue]; · iexact Hdue
      isplitl [Hcs Hps]
      · isplitl [Hcs] <;> iassumption
      iempintro
    isplitl [Hz]; · iexact Hz
    isplitl [Hzl]; · iexact Hzl
    isplitl [Hb]; · iexact Hb
    isplitl [Ha] <;> iassumption
  · -- into the handshake
    unfold bodyIn linear
    iintro ⟨Hdue, ⟨Hcb, Hcr⟩, ⟨⟨Hpb, Hpl, Hps, Hpr⟩, Htb, Htl, Hts, Htr⟩, ⟨Hb, Hs, Hl, Hr⟩, Ho, Ha⟩
    isplitl [Hdue Hcb Hpb Htb Hr]
    · isplitl [Hdue]; · iexact Hdue
      isplitl [Hcb]; · iexact Hcb
      isplitl [Hpb]; · iexact Hpb
      isplitl [Htb] <;> iassumption
    isplitl [Hcr]; · iexact Hcr
    isplitl [Hpl]; · iexact Hpl
    isplitl [Hps]; · iexact Hps
    isplitl [Hpr]; · iexact Hpr
    isplitl [Htl]; · iexact Htl
    isplitl [Hts]; · iexact Hts
    isplitl [Htr]; · iexact Htr
    isplitl [Hb Hs Hl]
    · isplitl [Hb]; · iexact Hb
      isplitl [Hs] <;> iassumption
    isplitl [Ho] <;> iassumption
  · -- out
    unfold atDrain bodyOut
    rw [range_all]
    unfold gone come
    simp only [bigSep_sep']
    iintro ⟨⟨Hdue, -, Hzs, Hs⟩, Hz, Hzl, Hb, Ha, Hzr, Hl, Hr, Ho⟩
    isplitl [Hdue]; · iexact Hdue
    isplitl [Hz Hzl Hzs Hzr]
    · isplitl [Hz]; · iexact Hz
      isplitl [Hzl]; · iexact Hzl
      isplitl [Hzs] <;> iassumption
    isplitl [Hb Hs Hl Hr]
    · isplitl [Hb]; · iexact Hb
      isplitl [Hs]
      · unfold sAny; iexists (sendC m c); rw [s_parts]; iexact Hs
      isplitl [Hl]
      · unfold lAny; iexists (localC m c); rw [l_parts]; iexact Hl
      · unfold rAny; iexists (recvC m c); rw [r_parts]; iexact Hr
    isplitl [Ho]
    · unfold outHeld; rw [o_parts]; iexact Ho
    iexact Ha

/-- The printed body, run by device `c` from `bodyIn`, ends in `bodyOut`. -/
theorem sound_body (Q : PUnit.{1} → sProp 𝕄) :
    iprop(records m K ∗ levAts L lv ∗ bodyIn m c ∗ (bodyOut m c -∗ Q ⟨⟩))
      ⊢ wp frame (wpE (defs₀ (F := F)) 𝒱₀ (c : Thread nD τ) none) Set.univ
          (cc0_body (F := F) xM (Memref.isWhole_whole _) oM (Memref.isWhole_whole _) bM (Memref.isWhole_whole _) sM (Memref.isWhole_whole _)
            lM (Memref.isWhole_whole _) rM (Memref.isWhole_whole _) cc0_scratch4 cc0_scratch5 cc0_scratch6) Q := by
  rw [body_eq]
  unfold pieces
  simp only [Prog.lift, Prog.bind_op, Prog.bind_ret, wp_deviceId]
  exact body_triple m K c (by rw [dev1_eq c]) Q

end Cert.KernelIdeal.Rs

end
-- ==== Proof.KernelIdeal.Launch.lean ====
/-
# The launch

The launch mints the protocol's ghost state from nothing, opens every cell's invariant, deals each device its
positions, its duty tokens and its credit, and runs the body on every device. Each device's run ends with its result
buffer holding the sum of its own half and its peer's, its argument as it was, and every semaphore at zero.
-/
module

public import proofs.«01_k».proof.Proof.KernelIdeal.Body
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Pipeline.CollectiveSegs
public import Idealize.ShloMosaic.Lib.Quiescent

@[expose] public section

set_option maxRecDepth 16384

noncomputable section

namespace Cert.KernelIdeal.Rs

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The one point's proof data -/

/-- The memory the run starts from. -/
def s₀ : MemSt nD τ sig (Elt F) := ⟨m, fun _ => 0, ρ⟩

/-- The credit device `c` starts with: its barrier's unit and its eight arrivals. -/
def credit (c : Dev nD) : sProp 𝕄 :=
  iprop(cred (tallyAt (barCell c) () 1) ∗ bigSep Finset.univ (fun k : Fin 8 => cred (tallyAt (recvCell c k) () N)))

/-- The scratch buffers, whole, at whatever they hold. -/
def scratch (c : Dev nD) : sProp 𝕄 := iprop(bAny c ∗ sAny c ∗ lAny c ∗ rAny c)

/-- The kernel's own DMA semaphores at zero. -/
def zeros (c : Dev nD) : sProp 𝕄 :=
  iprop((semVal (loadCell c (par 0)) 0 ∗ semVal (loadCell c (par 1)) 0)
    ∗ bigSep Finset.univ (fun k : Fin 8 => semVal (sendCell c k) 0) ∗ bigSep Finset.univ (fun k : Fin 8 => semVal (recvCell c k) 0))

/-- The ghost state dealt to device `c`: the records of all cells, and its own positions and tokens. -/
def dealt (c : Dev nD) : sProp 𝕄 := iprop(∃ K, records m K ∗ linear c)

/-- What device `c` holds when its kernel starts, besides the scratch buffers. -/
def start (c : Dev nD) : sProp 𝕄 := iprop(dealt m c ∗ credit c ∗ levAts L lv ∗ argHeld m c)

/-- Before the body. -/
def Φ₀ (c : Dev nD) : sProp 𝕄 := iprop(start m c ∗ scratch c)
/-- After the body. -/
def Φ₁ (c : Dev nD) : sProp 𝕄 := iprop((semVal (barCell c) 0 ∗ zeros c) ∗ scratch c ∗ argHeld m c)

/-- The proof data of the single point: the result window ends at `outC`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem held_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b) ↦{fullShare} f) := by
  unfold owns
  simp only [Memref.view_whole, View.read_whole, View.set_whole]

/-- The output's staging buffer held at `X`. -/
def stagedAt (c : Dev nD) (X : (cc0_stg0_0 : Ref sig .tc).ty.Contents (Elt F)) : sProp 𝕄 :=
  iprop(∃ f : Buf (Elt F) ((c : Thread nD τ).loc cc0_stg0_0), ⌜f = X⌝ ∗ ((c : Thread nD τ).loc cc0_stg0_0) ↦{fullShare} f)

/-- What the pipeline hands the body, and what it takes back. -/
def pointIn (c : Dev nD) : sProp 𝕄 :=
  iprop(Φ₀ m c ∗ (dats m ρ 0 c).owesAt () t0_0.castSucc ∗ (∃ d, stagedAt c ((dats m ρ 0 c).before (0 : Fin 1) t0_0 d)))
def pointOut (c : Dev nD) : sProp 𝕄 :=
  iprop(Φ₁ m c ∗ (dats m ρ 0 c).owesAt () t0_0.succ ∗ stagedAt c (outC m c))

theorem point_run (c : Dev nD) :
    pointIn m ρ c ⊢ wp frame (wpE (defs₀ (F := F)) 𝒱₀ (c : Thread nD τ) none) Set.univ
      (cc0_body (F := F) xM (Memref.isWhole_whole _) oM (Memref.isWhole_whole _) bM (Memref.isWhole_whole _) sM (Memref.isWhole_whole _)
        lM (Memref.isWhole_whole _) rM (Memref.isWhole_whole _) cc0_scratch4 cc0_scratch5 cc0_scratch6) (fun _ => pointOut m ρ c) := by
  unfold pointIn Φ₀ start dealt credit stagedAt Dat.owesAt Pipeline.owesWithin
  iintro ⟨⟨⟨⟨%K, #HR, Hl⟩, Hcr, #Hlev, Ha⟩, Hscr⟩, Hd, ⟨%d, %f, -, Ho⟩⟩
  icases Hd with ⟨%W, -, HO⟩
  iapply (sound_body m K c fun _ => pointOut m ρ c)
  isplitr; · iexact HR
  isplitr; · iexact Hlev
  isplitl
  · unfold bodyIn
    isplitl [HO]
    · unfold due; iexists W; iexact HO
    isplitl [Hcr]; · iexact Hcr
    isplitl [Hl]; · iexact Hl
    isplitl [Hscr]; · unfold scratch; iexact Hscr
    isplitl [Ho]; · unfold oAny; iexists f; iexact Ho
    iexact Ha
  · unfold bodyOut pointOut Φ₁ zeros scratch outHeld stagedAt due Dat.owesAt Pipeline.owesWithin
    iintro ⟨⟨%W', HO⟩, Hz, Hscr, Ho, Ha⟩
    isplitl [Hz Hscr Ha]
    · isplitl [Hz]; · iexact Hz
      isplitl [Hscr] <;> iassumption
    isplitl [HO]
    · iexists W'
      isplitr; · ipureintro; exact fun _ _ => Or.inl trivial
      iexact HO
    iexists (outC m c)
    isplitr; · ipureintro; rfl
    iexact Ho

/-- The obligation the pipeline asks of the body. -/
theorem body_obligation (c : Dev nD) : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = Φ (0 : Fin 1) from fun Φ => bigSep_W0 Φ,
    show ∀ Φ : Fin cfg0.W → sProp 𝕄, bigSep Finset.univ Φ = Φ (0 : Fin 1) from fun Φ => bigSep_W0 Φ]
  simp only [held_whole]
  exact point_run m ρ c

/-! ## The ghost state of the launch -/

theorem kcell_injective : Function.Injective (kcell : Dev nD × Fin 19 → GSem nD τ sig) := by
  rintro ⟨c, j⟩ ⟨c', j'⟩ h
  have hc : c = c' := congrArg (fun g : GSem nD τ sig => g.1.1) h
  have hj : j = j' := csem_inj (congrArg Prod.snd h)
  rw [hc, hj]

/-- All cells of the protocol. -/
def allCells : Finset (GSem nD τ sig) := Finset.univ.map ⟨kcell, kcell_injective⟩

/-- A device's duties: its barrier's, then per chunk its copy's, its send's and its arrival's. -/
abbrev Duty : Type := Unit ⊕ (Fin 8 ⊕ (Fin 8 ⊕ Fin 8))

/-- The cell (of nineteen) a duty is paid to, and its round. -/
def dutyAt : Duty → Fin 19 × ℕ
  | .inl _ => (0, 0)
  | .inr (.inl k) => (jLoad k, k.val / 2)
  | .inr (.inr (.inl k)) => (jSend k, 0)
  | .inr (.inr (.inr k)) => (jRecv k, 0)

theorem dutyAt_injective : Function.Injective dutyAt := by
  have key : ∀ d : Duty, (dutyAt d).1.val + 19 * (dutyAt d).2 =
      match d with
      | .inl _ => 0
      | .inr (.inl k) => 1 + k.val % 2 + 19 * (k.val / 2)
      | .inr (.inr (.inl k)) => 3 + k.val
      | .inr (.inr (.inr k)) => 11 + k.val := by
    rintro (_ | k | k | k) <;> simp [dutyAt, jLoad, jSend, jRecv]
  intro d d' h
  have e := (key d).symm.trans ((congrArg (fun p : Fin 19 × ℕ => p.1.val + 19 * p.2) h).trans (key d'))
  rcases d with _ | k | k | k <;> rcases d' with _ | k' | k' | k' <;> dsimp only at e <;> first
    | rfl
    | (exfalso; omega)
    | (have hk : k = k' := Fin.ext (by omega)
       rw [hk])

/-- A device's duty as a token: cell, round, which duty of the round. -/
def tokOf (p : Dev nD × Duty) : GSem nD τ sig × ℕ × Unit := (kcell (p.1, (dutyAt p.2).1), (dutyAt p.2).2, ())

theorem tokOf_injective : Function.Injective tokOf := by
  rintro ⟨c, d⟩ ⟨c', d'⟩ h
  have h1 := kcell_injective (congrArg Prod.fst h)
  have hd : d = d' := dutyAt_injective (Prod.ext (congrArg Prod.snd h1) (congrArg (fun x : GSem nD τ sig × ℕ × Unit => x.2.1) h))
  rw [show c = c' from congrArg Prod.fst h1, hd]

def allToks : Finset (GSem nD τ sig × ℕ × Unit) := Finset.univ.map ⟨tokOf, tokOf_injective⟩

/-- The ghost element the launch starts from: the pipeline's and the protocol's. -/
def u₀ : UU := (initOf (Pipeline.cells cfgs cellOf_inj) (Pipeline.launchToks cfgs cellOf_inj), initOf allCells allToks)

/-- Device `c`'s positions, before any round. -/
def positions (c : Dev nD) : sProp 𝕄 := bigSep Finset.univ fun j : Fin 19 => atPos ER (kcell (c, j)) 0 ∅ 0

/-- The tokens of the duties paid to device `c`'s cells. -/
def toks (c : Dev nD) : sProp 𝕄 :=
  iprop(dutyTok ER (barCell c) 0 () ∗ bigSep Finset.univ (fun k : Fin 8 => dutyTok ER (loadCell c k) (k.val / 2) ())
    ∗ bigSep Finset.univ (fun k : Fin 8 => dutyTok ER (sendCell c k) 0 ()) ∗ bigSep Finset.univ (fun k : Fin 8 => dutyTok ER (recvCell c k) 0 ()))

/-- The tokens of the duties device `c` pays. -/
def payToks (c : Dev nD) : sProp 𝕄 :=
  iprop(dutyTok ER (barCell (peer c)) 0 () ∗ bigSep Finset.univ (fun k : Fin 8 => dutyTok ER (loadCell c k) (k.val / 2) ())
    ∗ bigSep Finset.univ (fun k : Fin 8 => dutyTok ER (sendCell c k) 0 ()) ∗ bigSep Finset.univ (fun k : Fin 8 => dutyTok ER (recvCell (peer c) k) 0 ()))

/-- What the launch's ghost element gives device `c`. -/
def minted (c : Dev nD) : sProp 𝕄 :=
  iprop((bigSep Finset.univ fun j : Fin 19 => roundState ER (rsRd m) (kcell (c, j)) 0)
    ∗ (positions c ∗ bigSep Finset.univ fun j : Fin 19 => reached ER (kcell (c, j)) 0) ∗ toks c)

theorem over_cells (Φ : GSem nD τ sig → sProp 𝕄) :
    bigSep allCells Φ = bigSep Finset.univ fun c : Dev nD => bigSep Finset.univ fun j : Fin 19 => Φ (kcell (c, j)) := by
  unfold allCells
  rw [bigSep_map, bigSep_univ_prod]
  rfl

theorem over_toks : bigSep allToks (fun x => (dutyTok ER x.1 x.2.1 x.2.2 : sProp 𝕄)) = bigSep Finset.univ fun c : Dev nD => toks c := by
  unfold allToks
  rw [bigSep_map, bigSep_univ_prod]
  refine bigSep_congr fun c _ => ?_
  rw [bigSep_univ_sum, bigSep_univ_sum, bigSep_univ_sum, show (Finset.univ : Finset Unit) = {()} from rfl, bigSep_singleton]
  unfold toks
  simp only [← kcell_bar, ← kcell_load, ← kcell_send, ← kcell_recv]
  rfl

theorem mint : BI.own (ER (initOf allCells allToks)) ⊢ (|==> bigSep Finset.univ (minted m) : sProp 𝕄) := by
  iintro H
  imod (Rounds.fund ER (rsRd m) allCells allToks) $$ H with ⟨Hst, Hr, Hat, Ht⟩
  imodintro
  ihave Hst := (Entails.of_eq (over_cells fun g => roundState ER (rsRd m) g 0)) $$ Hst
  ihave Hat := (Entails.of_eq (over_cells fun g => atPos ER g 0 ∅ 0)) $$ Hat
  ihave Hr := (Entails.of_eq (over_cells fun g => reached ER g 0)) $$ Hr
  ihave Ht := (Entails.of_eq over_toks) $$ Ht
  unfold minted positions
  simp only [bigSep_sep']
  isplitl [Hst]; · iexact Hst
  isplitl [Hat Hr]
  · isplitl [Hat] <;> iassumption
  iexact Ht

/-! ## The nineteen cells by kind -/

theorem jSend_injective : Function.Injective jSend := fun a b h => by
  have h' : 3 + a.val = 3 + b.val := congrArg Fin.val h
  exact Fin.ext (by omega)
theorem jRecv_injective : Function.Injective jRecv := fun a b h => by
  have h' : 11 + a.val = 11 + b.val := congrArg Fin.val h
  exact Fin.ext (by omega)

theorem fin19_parts : (Finset.univ : Finset (Fin 19))
    = insert 0 (insert (jLoad (par 0)) (insert (jLoad (par 1)) ((Finset.univ : Finset (Fin 8)).map ⟨jSend, jSend_injective⟩ ∪ (Finset.univ : Finset (Fin 8)).map ⟨jRecv, jRecv_injective⟩))) := by
  decide

/-- A family over the nineteen cells: the barrier's, the two copies', the sends' and the arrivals'. -/
theorem by_kind (Φ : Fin 19 → sProp 𝕄) :
    bigSep Finset.univ Φ = iprop(Φ 0 ∗ (Φ (jLoad (par 0)) ∗ Φ (jLoad (par 1)))
      ∗ bigSep Finset.univ (fun k : Fin 8 => Φ (jSend k)) ∗ bigSep Finset.univ (fun k : Fin 8 => Φ (jRecv k))) := by
  rw [fin19_parts, bigSep_insert (by decide), bigSep_insert (by decide), bigSep_insert (by decide), bigSep_union (by decide),
    bigSep_map, bigSep_map]
  exact congrArg (fun X : sProp 𝕄 => iprop(Φ 0 ∗ X)) (equiv_iff.mp ⟨BI.sep_assoc', BI.sep_assoc⟩)

/-- A family over a device's cells, by kind. -/
theorem cells_by_kind (c : Dev nD) (Φ : GSem nD τ sig → sProp 𝕄) :
    bigSep Finset.univ (fun j : Fin 19 => Φ (kcell (c, j))) = iprop(Φ (barCell c) ∗ (Φ (loadCell c (par 0)) ∗ Φ (loadCell c (par 1)))
      ∗ bigSep Finset.univ (fun k : Fin 8 => Φ (sendCell c k)) ∗ bigSep Finset.univ (fun k : Fin 8 => Φ (recvCell c k))) := by
  rw [by_kind]
  simp only [kcell_bar, kcell_load, kcell_send, kcell_recv]

theorem ownSemFacts : Pipeline.OwnSemFacts cfg0.spec osem := by decide

/-- The semaphores the kernel declares, by number, are the cells past the barrier's. -/
theorem own_sems (c : Dev nD) : iprop(semVal (barCell c) 0
      ∗ (Pipeline.ownSems0 (Ix := Unit) (Name := ℕ) (U := UU) (Lvl := ℕ) (Val := Elt F) (τ := τ) osem c : sProp 𝕄))
    = bigSep Finset.univ (fun j : Fin 19 => semVal (kcell (c, j)) 0) := by
  rw [Fin.univ_succ, Finset.cons_eq_insert, bigSep_insert (by simp [Fin.succ_ne_zero]), bigSep_map]
  rfl

theorem barrier_sem (c : Dev nD) : (unscopedSems0 c : sProp 𝕄) = semVal (barCell c) 0 := by
  unfold unscopedSems0
  rw [bigSep_eq_bigSepL_of_eq [SemLoc.reg barS] (by decide) (by decide)]
  rfl

/-! ## Opening the cells and dealing -/

theorem open_cells (c : Dev nD) :
    iprop(Pipeline.ownSems0 (Ix := Unit) (Name := ℕ) (U := UU) (Lvl := ℕ) (Val := Elt F) (τ := τ) osem c ∗ unscopedSems0 c ∗ minted m c)
      ⊢ |={Set.univ}=> iprop((bigSep Finset.univ fun j => iprop(∃ κ : ℕ, cellInv ER (rsRd m) κ (kcell (c, j))))
          ∗ (bigSep Finset.univ fun j : Fin 19 => reached ER (kcell (c, j)) 0) ∗ positions c ∗ toks c) := by
  unfold minted
  iintro ⟨Ho, Hb, Hst, ⟨Hat, Hr⟩, Ht⟩
  ihave Hb := (Entails.of_eq (barrier_sem c)) $$ Hb
  ihave Hv := (Entails.of_eq (own_sems c)) $$ [Ho Hb]
  · isplitl [Hb] <;> iassumption
  imod (show iprop((bigSep Finset.univ fun j : Fin 19 => semVal (kcell (c, j)) 0) ∗ bigSep Finset.univ fun j : Fin 19 => roundState ER (rsRd m) (kcell (c, j)) 0)
      ⊢ (|={Set.univ}=> bigSep Finset.univ fun j => iprop(∃ κ : ℕ, cellInv ER (rsRd m) κ (kcell (c, j))) : sProp 𝕄) from by
        rw [← bigSep_sep']
        exact (bigSep_mono fun j _ => (Rounds.body_intro ER (rsRd m) (kcell (c, j))).trans inv_alloc).trans (bigSep_fupd _ _)) $$ [Hv Hst] with HI
  · isplitl [Hv] <;> iassumption
  imodintro
  isplitl [HI]; · iexact HI
  isplitl [Hr]; · iexact Hr
  isplitl [Hat] <;> iassumption

/-- A barrier's token and an arrival's go to the peer, which pays them; the others stay. -/
theorem deal_toks : (bigSep Finset.univ fun c : Dev nD => (toks c : sProp 𝕄)) = bigSep Finset.univ fun c : Dev nD => payToks c := by
  unfold toks payToks
  rw [bigSep_sep', bigSep_sep', bigSep_sep', bigSep_sep', bigSep_sep', bigSep_sep',
    bigSep_univ_equiv swap (fun c : Dev nD => (dutyTok ER (barCell c) 0 () : sProp 𝕄)),
    bigSep_univ_equiv swap (fun c : Dev nD => bigSep Finset.univ fun k : Fin 8 => (dutyTok ER (recvCell c k) 0 () : sProp 𝕄))]
  rfl

theorem linear_of (c : Dev nD) : iprop(positions c ∗ payToks c) ⊢ (linear c : sProp 𝕄) := by
  unfold positions payToks linear
  rw [cells_by_kind c fun g => atPos ER g 0 ∅ 0]

theorem deal :
    (bigSep Finset.univ fun c : Dev nD => iprop((bigSep Finset.univ fun j => iprop(∃ κ : ℕ, cellInv ER (rsRd m) κ (kcell (c, j))))
          ∗ (bigSep Finset.univ fun j : Fin 19 => reached ER (kcell (c, j)) 0) ∗ positions c ∗ toks c) : sProp 𝕄)
      ⊢ bigSep Finset.univ (dealt m) := by
  rw [bigSep_sep', bigSep_sep', bigSep_sep', deal_toks, ← bigSep_sep' Finset.univ (fun c : Dev nD => (positions c : sProp 𝕄)),
    ← bigSep_univ_prod (fun ck : Dev nD × Fin 19 => iprop(∃ κ : ℕ, cellInv ER (rsRd m) κ (kcell ck))),
    ← bigSep_univ_prod (fun ck : Dev nD × Fin 19 => (reached ER (kcell ck) 0 : sProp 𝕄))]
  iintro ⟨HI, #HR, Hl⟩
  ihave HK := (BI.bigSep_exists_pi Finset.univ (fun (ck : Dev nD × Fin 19) (κ : ℕ) => (cellInv ER (rsRd m) κ (kcell ck) : sProp 𝕄))) $$ HI
  icases HK with ⟨%K, #HI⟩
  iapply (show iprop(records m K ∗ bigSep Finset.univ fun c : Dev nD => iprop(positions c ∗ payToks c)) ⊢ bigSep Finset.univ (dealt m) from
    (sep_mono_left (BI.bigSep_of_persistent Finset.univ (records m K))).trans (by
      rw [← bigSep_sep']
      exact bigSep_mono fun c _ => by
        show iprop(records m K ∗ positions c ∗ payToks c) ⊢ dealt m c
        unfold dealt
        iintro ⟨H1, H2⟩
        iexists K
        isplitl [H1]; · iexact H1
        iapply (linear_of c); iexact H2))
  isplitr
  · unfold records
    isplitl; · iexact HI
    iexact HR
  · iexact Hl

theorem glob : (bigSep Finset.univ fun c => iprop(Pipeline.ownSems0 (Ix := Unit) (Name := ℕ) (U := UU) (Lvl := ℕ) (Val := Elt F) (τ := τ) osem c
      ∗ unscopedSems0 c ∗ minted m c) : sProp 𝕄) ⊢ |={Set.univ}=> bigSep Finset.univ (dealt m) :=
  ((bigSep_mono fun c _ => open_cells m c).trans (bigSep_fupd _ _)).trans (BI.fupd_mono (deal m))

/-! ## The launch credit -/

theorem recv_ne_bar (k : Fin 8) : (SemLoc.dma (recvS k) : SemLoc sig) ≠ .reg barS := fun h => by cases h
theorem recvCell_inj {a b : Dev nD} {k k' : Fin 8} (h : recvCell a k = recvCell b k') : a = b ∧ k = k' := by
  have h2 : recvS k = recvS k' := SemLoc.dma.inj (congrArg Prod.snd h)
  have h3 := congrArg Fin.val h2
  rw [recvS_val, recvS_val] at h3
  exact ⟨congrArg (fun g : GSem nD τ sig => g.1.1) h, Fin.ext (by omega)⟩

/-- Of the last `n` sends, device `d` owes the arrival of chunk `k` at its peer where that is one of them. -/
theorem owed_recv (d c : Dev nD) (k : Fin 8) : ∀ n ≤ 8, owed d n (recvCell c k) () = if d = peer c ∧ 8 ≤ k.val + n then N else 0
  | 0, _ => by
    rw [if_neg fun h => by have := k.isLt; omega]
    rfl
  | n + 1, hn => by
    show (owed d n + tallyAt (recvCell (peer d) (chunk (7 - n))) () N) (recvCell c k) () = _
    rw [Pi.add_apply, Finsupp.add_apply, owed_recv d c k n (by omega), tallyAt_apply]
    have hk := k.isLt
    have hc : (chunk (7 - n)).val = 7 - n := Nat.mod_eq_of_lt (by omega)
    by_cases hd : d = peer c
    · subst hd
      by_cases h7 : k.val = 7 - n
      · rw [if_neg fun h => by omega, if_pos ⟨by rw [peer_peer]; exact congrArg _ (Fin.ext (h7.trans hc.symm)), rfl⟩, if_pos ⟨rfl, by omega⟩, Nat.zero_add]
      · rw [if_neg (show ¬ (recvCell c k = recvCell (peer (peer c)) (chunk (7 - n)) ∧ () = ()) from fun h => h7 ((congrArg Fin.val (recvCell_inj h.1).2).trans hc)), Nat.add_zero]
        by_cases h8 : 8 ≤ k.val + n
        · rw [if_pos ⟨rfl, h8⟩, if_pos ⟨rfl, by omega⟩]
        · rw [if_neg fun h => h8 h.2, if_neg fun h => by omega]
    · rw [if_neg fun h => hd h.1, if_neg fun h => hd (by rw [(recvCell_inj h.1).1, peer_peer]), if_neg fun h => hd h.1]

theorem owed_bar (d c : Dev nD) : ∀ n, owed d n (barCell c) () = 0
  | 0 => rfl
  | n + 1 => by
    show (owed d n + tallyAt (recvCell (peer d) (chunk (7 - n))) () N) (barCell c) () = _
    rw [Pi.add_apply, Finsupp.add_apply, owed_bar d c n, tallyAt_ne_cell (fun h => recv_ne_bar _ (congrArg Prod.snd h).symm)]
    rfl

theorem O₀_recv (d c : Dev nD) (k : Fin 8) : O₀ d (recvCell c k) () = if d = peer c then N else 0 := by
  unfold O₀
  rw [Pi.add_apply, Finsupp.add_apply, owed_recv d c k 8 le_rfl, tallyAt_ne_cell (fun h => recv_ne_bar _ (congrArg Prod.snd h)), Finsupp.zero_apply, Nat.add_zero]
  exact if_congr ⟨fun h => h.1, fun h => ⟨h, by omega⟩⟩ rfl rfl

theorem O₀_bar (d c : Dev nD) : O₀ d (barCell c) () = if d = peer c then 1 else 0 := by
  unfold O₀
  rw [Pi.add_apply, Finsupp.add_apply, owed_bar, Nat.zero_add, tallyAt_apply]
  refine if_congr ⟨fun h => ?_, fun h => ⟨by rw [h, peer_peer], rfl⟩⟩ rfl rfl
  rw [show c = peer d from congrArg (fun g : GSem nD τ sig => g.1.1) h.1, peer_peer]

/-- A cell that exactly one device owes to is credited that much. -/
theorem credit_of (g : GSem nD τ sig) (d₀ : Dev nD) (n : ℕ) (h : ∀ d, O₀ d g () = if d = d₀ then n else 0) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, Finset.sum_congr rfl fun d _ => h d, Finset.sum_ite_eq' Finset.univ d₀ fun _ => n,
    if_pos (Finset.mem_univ _)]

theorem recvLoc_injective : Function.Injective (fun k : Fin 8 => (SemLoc.dma (recvS k) : SemLoc sig)) := fun a b h => by
  have h' := congrArg Fin.val (SemLoc.dma.inj h)
  rw [recvS_val, recvS_val] at h'
  exact Fin.ext (by omega)

theorem credits (c : Dev nD) : (Pipeline.launchCred O₀ c : sProp 𝕄) ⊢ credit c := by
  unfold Pipeline.launchCred credit
  rw [bigSep_univ_at _ (SemLoc.reg barS), credit_of (barCell c) (peer c) 1 fun d => O₀_bar d c]
  refine sep_mono_right ?_
  refine (bigSep_subset (t := Finset.univ.map ⟨_, recvLoc_injective⟩) fun sm hsm => ?_).trans ?_
  · obtain ⟨k, -, rfl⟩ := Finset.mem_map.mp hsm
    exact Finset.mem_erase.mpr ⟨recv_ne_bar k, Finset.mem_univ _⟩
  · rw [bigSep_map]
    exact bigSep_mono fun k _ => Entails.of_eq (congrArg cred (credit_of (recvCell c k) (peer c) N fun d => O₀_recv d c k))

/-! ## The side conditions of the launch -/

theorem share_eq (c : Dev nD) (w : Fin cfg0.W) : (dats m ρ 0 c).share w = fullShare := by
  unfold Dat.share
  split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(start m c ∗ emp) := by
  rw [Pipeline.unscopedRestP_none, unscopedRest0_eq]
  iintro ⟨Ha, Hlev, Hcr, -, HG⟩
  ihave Hc := (credits c) $$ Hcr
  imodintro
  unfold start argHeld argC
  isplitl
  · isplitl [HG]; · iexact HG
    isplitl [Hc]; · iexact Hc
    isplitl [Hlev] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch bAny sAny lAny rAny
  iintro ⟨Hs, -, Hr⟩
  isplitl [Hs] <;> iassumption

theorem leave (c : Dev nD) :
    (dats m ρ 0 c).Φ (Fin.last cfg0.N) ⊢ iprop((unscopedSems0 c ∗ argHeld m c) ∗ Pipeline.ownSems0 osem c ∗ Pipeline.scopedRest cfg0.spec c) := by
  have hz : iprop(semVal (barCell c) 0 ∗ zeros c) ⊢ (iprop(unscopedSems0 c ∗ Pipeline.ownSems0 osem c) : sProp 𝕄) := by
    rw [barrier_sem, own_sems, cells_by_kind c fun g => semVal g 0]
    exact Entails.rfl
  rw [show (dats m ρ 0 c).Φ (Fin.last cfg0.N) = Φ₁ m c from rfl, scopedRest0_eq]
  unfold Φ₁
  iintro ⟨Hz, Hs, Ha⟩
  ihave Hz := hz $$ Hz
  icases Hz with ⟨Hb, Ho⟩
  isplitl [Hb Ha]
  · isplitl [Hb] <;> iassumption
  isplitl [Ho]; · iexact Ho
  unfold scratch bAny sAny lAny rAny
  iexact Hs

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What is read off at the end of device `c`: its barrier at zero and its argument as it was. -/
theorem read_end (c : Dev nD) (s' : Phys nD τ sig (Elt F)) :
    iprop((unscopedSems0 c ∗ argHeld m c) ∗ emp ∗ SI s')
      ⊢ (|={Set.univ}=> iprop(⌜(∀ sm : SemLoc sig, sm.isScoped .tc = false → s'.mem.sem ((c : Thread nD τ), sm) = 0)
          ∧ s'.mem.mem ((c : Thread nD τ).loc main_arg0) = argC m c⌝ ∗ SI s') : sProp 𝕄) := by
  unfold argHeld
  iintro ⟨⟨Hu, Ha⟩, -, HSI⟩
  icombine HSI Ha gives %ha
  imod (Pipeline.unscopedSems0_read (X := unscopedSems0 c) (c := c) fupd_intro s') $$ [Hu HSI] with ⟨%hu, HSI⟩
  · isplitl [Hu] <;> iassumption
  imodintro
  isplitr
  · ipureintro; exact ⟨hu, Buf.eq_of_forall_mem_univ ha⟩
  iexact HSI

/-! ## The run -/

/-- The result array of device `c` is what the body left in the staging buffer. -/
theorem final_out (c : Dev nD) : (dats (F := F) m ρ 0 c).arrAt (0 : Fin 1) cfg0.N = outC m c :=
  (dats (F := F) m ρ 0 c).arrAt_eq_of_after_last (0 : Fin 1) t0_0 (by decide +kernel) (outC m c) fun j => rfl

/-- Every fair execution ends, with each device's result at `outC`, its argument unchanged and every semaphore at
    zero. -/
theorem run_main : θ_run defs (onTc (τ := τ) (main (F := F))) ⟨m, fun _ => 0, ρ⟩ (fun r =>
    (∀ c : Dev nD, r.2.mem ((c : Thread nD τ).loc main_v1) = outC m c ∧ r.2.mem ((c : Thread nD τ).loc main_arg0) = m ((c : Thread nD τ).loc main_arg0))
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := minted m) (G' := dealt m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := glob m)
    (hA := fun _ _ => rfl) (hpf := fun _ k => k.elim0)
    (X := start m) (Y := fun c => iprop(unscopedSems0 c ∗ argHeld m c)) (Z := fun _ => iprop(emp))
    (hX := start_intro m ρ) (hin := enter m ρ) (hout := leave m ρ)
    (QY := fun c s => (∀ sm : SemLoc sig, sm.isScoped .tc = false → s.sem ((c.tc : Thread nD τ), sm) = 0)
      ∧ s.mem ((c : Thread nD τ).loc main_arg0) = argC m c)
    (hY := read_end m)
    (hQ := fun _ h hs => ⟨fun c => ⟨((h c).1 (0 : Fin 1)).trans (final_out m ρ c), (h c).2.2.2⟩, sem_eq_zero hs fun c => (h c).2.2.1⟩)

end Cert.KernelIdeal.Rs

end
-- ==== Proof.Kernel.Same.lean ====
/-
# The kernel as printed and the kernel printed for the reals are one text

No operation was rewritten between the two, so their bodies, body tables and mains are equal at any float instance,
and what `KernelIdeal.Rs.run_main` says of the one, at any floats, it says of the other.
-/
module

public import proofs.«01_k».proof.Defs
public import proofs.«01_k».proof.Proof.KernelIdeal.Launch
public import proofs.«01_k».proof.Proof.Gen.Kernel
public import Idealize.ShloMosaic.Lib.StableHlo.RunHlo

@[expose] public section

set_option maxRecDepth 100000

noncomputable section

namespace Cert.Kernel.Rs

open Idealize.ShloMosaic Idealize.SL.Sem

variable {F : FTy → Type} [FloatOps F] [Cert.Kernel.Facts] [Cert.KernelIdeal.Facts]

/-- The two bodies are equal. -/
theorem same_body : Cert.Kernel.cc0_body (F := F) = Cert.KernelIdeal.cc0_body (F := F) := by
  unfold Cert.Kernel.cc0_body Cert.KernelIdeal.cc0_body
  rfl

/-- So are the tables that name them, -/
theorem same_defs₀ : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) =>
    dsimp only
    rw [same_body]
  | ⟨_ + 1, h⟩, _ => exact absurd h (Nat.not_lt.2 (Nat.le_add_left _ _))

theorem same_defs : Cert.Kernel.defs (F := F) = Cert.KernelIdeal.defs (F := F) := by
  unfold Cert.Kernel.defs Cert.KernelIdeal.defs
  rw [same_defs₀]
  rfl

/-- and the mains. -/
theorem same_main : Cert.Kernel.main (F := F) = Cert.KernelIdeal.main (F := F) := by
  unfold Cert.Kernel.main Cert.KernelIdeal.main
  rfl

/-- The kernel at the floats of the machine: it terminates without fault, leaves its argument unchanged and every
    semaphore at zero. -/
theorem kernel_frame : Cert.quiescent_Kernel := fun m g _ => by
  rw [same_defs, same_main]
  exact θ_run_mono (Cert.KernelIdeal.Rs.run_main (F := Bits) m g) fun r h => ⟨fun c => (h.1 c).2, h.2⟩

end Cert.Kernel.Rs

end
-- ==== Proof.Value.lean ====
/-
# What the kernel computes over the reals

Device `c` of x coordinate `h` holds block `h` of the argument and ends with its own half of its columns of that block
plus the same columns of its peer's block. The reference adds the two blocks; the columns are block `h` of its result.
-/
module

public import proofs.«01_k».proof.Defs
public import proofs.«01_k».proof.Proof.KernelIdeal.Launch
public import proofs.«01_k».proof.Proof.Gen.ReferenceIdeal.Run
public import Idealize.ShloMosaic.Lib.IdealHost
public import Idealize.ShloMosaic.PureOps.Ideal.Laws

@[expose] public section

set_option maxRecDepth 16384

noncomputable section

namespace Cert.KernelIdeal.Rs

open Cert.KernelIdeal Cert.KernelIdeal.Gen
open Idealize.ShloMosaic Idealize.ShloMosaic.TcCoe

/-- The whole argument, and the whole result. -/
abbrev Whole : Type := (⟨3, ![2, 2048, 1024]⟩ : Shape).Idx → EReal
abbrev Sum : Type := (⟨2, ![2048, 1024]⟩ : Shape).Idx → EReal

/-- The index of the whole argument in block `h` at row `r` and column `q`. -/
def wholeIx (h : Fin 2) (r : Fin 2048) (q : Fin 1024) : (⟨3, ![2, 2048, 1024]⟩ : Shape).Idx := fun a => match a with
  | 0 => h
  | 1 => r
  | 2 => q

/-- The x coordinate of a device. -/
def half (c : Dev nD) : Fin 2 := ⟨c.val / 16, by have := dev_lt c; omega⟩

theorem half_peer (c : Dev nD) : (half (peer c)).val = 1 - (half c).val := by
  have := dev_lt c
  show (c.val + 16) % 32 / 16 = 1 - c.val / 16
  omega

/-- Device `c`'s block of an argument, and of a result. -/
abbrev argBlock (X : Whole) (c : Dev nD) : S1x2048x1024.Idx → EReal :=
  Layout.blockN ⟨3, ![1, 2048, 1024]⟩ ⟨3, ![2, 2048, 1024]⟩ (Layout.meshBlock [2, 4, 4] ![[0], [], []] c) X
abbrev resBlock (Y : Sum) (c : Dev nD) : S2048x512.Idx → EReal :=
  Layout.blockN ⟨2, ![2048, 512]⟩ ⟨2, ![2048, 1024]⟩ (Layout.meshBlock [2, 4, 4] ![[], [0]] c) Y

/-- The sum of the two blocks, element by element. -/
def blockSum (X : Whole) : Sum := fun j => X (wholeIx 0 (j 0) (j 1)) + X (wholeIx 1 (j 0) (j 1))

/-- The reference's term is the sum of the two blocks. -/
theorem reference_sum (X : Whole) :
    truncf (F := Ideal) .bf16 (Host.reduceAdd (F := Ideal) (φ := .f32) X (constant Cert.ReferenceIdeal.S_ .f32 0x00000000#32)
      Cert.ReferenceIdeal.Gen.reducesTo_S2x2048x1024_S2048x1024_d0 Cert.ReferenceIdeal.Gen.h_S_) Cert.ReferenceIdeal.Gen.bitsLt_bf16_f32 = blockSum X := by
  funext j
  have hred : Shape.Reduces ⟨3, ![2, 2048, 1024]⟩ [0] ⟨2, ![2048, 1024]⟩ := by decide
  have hl : ∀ k : Fin 2, hred.lift j k = wholeIx k (j 0) (j 1) := fun k => funext fun a => by
    match a with
    | 0 => rfl
    | 1 => rfl
    | 2 => rfl
  refine (ValueIdx.hostReduceAdd_apply (φ := .f32) X _ Cert.ReferenceIdeal.Gen.reducesTo_S2x2048x1024_S2048x1024_d0 Cert.ReferenceIdeal.Gen.h_S_ j).trans ?_
  refine (Ideal.hostReduceAdd_single _ hred X _ j).trans ?_
  show Ideal.ofBits .f32 0x00000000#32 + ∑ k : Fin 2, X (hred.lift j k) = _
  rw [Ideal.ofBits_zero_f32, zero_add, Fin.sum_univ_two, hl, hl]
  rfl

/-- Device `c`'s block of the argument, element by element. -/
theorem block_at (X : Whole) (c : Dev nD) (r : Fin 2048) (q : Fin 1024) :
    argBlock X c (argIx r q) = X (wholeIx (half c) r q) := by
  refine congrArg X (funext fun a => Fin.ext ?_)
  have hc := dev_lt c
  rw [Layout.TilesN.idx_val]
  match a with
  | 0 =>
    show (c.val / 16 % 2 * 1 + 0) * 1 + 0 = c.val / 16
    omega
  | 1 =>
    show 0 * 2048 + r.val = r.val
    omega
  | 2 =>
    show 0 * 1024 + q.val = q.val
    omega

/-- Device `c`'s block of the result, element by element: the columns it keeps. -/
theorem result_at (Y : Sum) (c : Dev nD) (i : S2048x512.Idx) :
    resBlock Y c i = Y (fun a => match a with | 0 => i 0 | 1 => colO c (i 1)) := by
  refine congrArg Y (funext fun a => Fin.ext ?_)
  have hc := dev_lt c
  rw [Layout.TilesN.idx_val]
  match a with
  | 0 =>
    show 0 * 2048 + (i 0).val = (i 0).val
    omega
  | 1 =>
    show (c.val / 16 % 2 * 1 + 0) * 512 + (i 1).val = 512 * (c.val / 16) + (i 1).val
    omega

/-- The columns a device keeps are the columns its peer sends. -/
theorem colP_peer (c : Dev nD) (j : Fin 512) : colP (peer c) j = colO c j := by
  have hc := dev_lt c
  apply Fin.ext
  show 512 - 512 * ((c.val + 16) % 32 / 16) + j.val = 512 * (c.val / 16) + j.val
  omega

/-- A device's block and its peer's, at one row and column, add to the sum of the two blocks there. -/
theorem blocks_add (X : Whole) (c : Dev nD) (r : Fin 2048) (q : Fin 1024) :
    argBlock X c (argIx r q) + argBlock X (peer c) (argIx r q) = X (wholeIx 0 r q) + X (wholeIx 1 r q) := by
  have hp := half_peer c
  have hc := (half c).isLt
  rw [block_at, block_at]
  rcases (show (half c).val = 0 ∨ (half c).val = 1 by omega) with h | h
  · rw [show half c = 0 from Fin.ext h, show half (peer c) = 1 from Fin.ext (by rw [hp, h]; rfl)]
  · rw [show half c = 1 from Fin.ext h, show half (peer c) = 0 from Fin.ext (by rw [hp, h]; rfl), add_comm]

/-- The kernel's result on device `c` is its block of the sum of the two blocks. -/
theorem out_eq (m : (ℓ : Loc nD τ sig) → Buf (Elt Ideal) ℓ) (X : Whole) (h : ∀ c : Dev nD, argC m c = argBlock X c) (c : Dev nD) :
    outC m c = resBlock (blockSum X) c := by
  funext i
  have hs : argC m c (argIx (i 0) (colO c (i 1))) + argC m (peer c) (argIx (i 0) (colP (peer c) (i 1)))
      = argBlock X c (argIx (i 0) (colO c (i 1))) + argBlock X (peer c) (argIx (i 0) (colO c (i 1))) :=
    congrArg₂ (· + ·) (congrFun (h c) _) ((congrFun (h (peer c)) _).trans (congrArg (fun q => argBlock X (peer c) (argIx (i 0) q)) (colP_peer c (i 1))))
  exact (hs.trans (blocks_add X c (i 0) (colO c (i 1)))).trans (result_at (blockSum X) c i).symm

end Cert.KernelIdeal.Rs

end
-- ==== Proof.lean ====
/-
# The certificate

The kernel's runs, at the machine's floats and over the reals, the reference's run, and the equation of their results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Same
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel over the reals terminates without fault, leaves its argument unchanged and every semaphore at zero. -/
theorem ideal_frame [Cert.KernelIdeal.Facts] : Cert.quiescent_KernelIdeal := fun m g _ =>
  θ_run_mono (Cert.KernelIdeal.Rs.run_main (F := Ideal) m g) fun r h => ⟨fun c => (h.1 c).2, h.2⟩

/-- The reference terminates without fault and leaves its argument unchanged; it declares no semaphore. -/
theorem reference_frame [Cert.ReferenceIdeal.Facts] : Cert.quiescent_ReferenceIdeal := fun m g _ =>
  θ_run_mono (Cert.ReferenceIdeal.Value.run (F := Ideal) m g) fun r h =>
    ⟨fun c => (h c).2, sem_eq_zero_of_no_sems (by decide) r.2⟩

/-- Each device's result is its block of the reference's. -/
theorem same_function [Cert.KernelIdeal.Facts] [Cert.ReferenceIdeal.Facts] : Cert.algebraic_KernelIdeal_ReferenceIdeal := fun m g m' g' _ hm =>
  ⟨Cert.KernelIdeal.Rs.blockSum (m' (((0 : Dev Cert.ReferenceIdeal.nD).tc : Thread Cert.ReferenceIdeal.nD Cert.ReferenceIdeal.τ).loc Cert.ReferenceIdeal.main_arg0)),
    θ_run_mono (Cert.KernelIdeal.Rs.run_main (F := Ideal) m g) fun r h c => ⟨(h.1 c).1.trans (Cert.KernelIdeal.Rs.out_eq m _ hm c), (h.1 c).2⟩,
    θ_run_mono (Cert.ReferenceIdeal.Value.run (F := Ideal) m' g') fun r h => ⟨(h 0).1.trans (Cert.KernelIdeal.Rs.reference_sum _), (h 0).2⟩⟩

/-- All the claims. -/
theorem claim : Cert.Claim := ⟨Cert.Kernel.Gen.facts, Cert.KernelIdeal.Gen.facts, Cert.ReferenceIdeal.Gen.facts,
  Cert.Kernel.Rs.kernel_frame, ideal_frame, reference_frame, trivial, same_function⟩

end Cert.Proof

end
